-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_numbers [hPre_bf16_numbers : Cert.Pre_bf16_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bf16_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_numbers [hPre_bf16_numbers : Cert.Pre_bf16_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bf16_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_numbers [hKernelIdeal : Cert.KernelIdeal.Facts] [hPre_bf16_numbers : Cert.Pre_bf16_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_numbers [hReferenceIdeal : Cert.ReferenceIdeal.Facts] [hPre_bf16_numbers : Cert.Pre_bf16_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_numbers [hKernelIdeal : Cert.KernelIdeal.Facts] [hReferenceIdeal : Cert.ReferenceIdeal.Facts] [hPre_bf16_numbers : Cert.Pre_bf16_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_numbers : Cert.Pre_bf16_numbers.Facts),
    quiescent_Kernel (hKernel := hKernel)
    ∧ quiescent_KernelIdeal (hKernelIdeal := hKernelIdeal)
    ∧ quiescent_KernelIdeal_pre_bf16_numbers (hKernelIdeal := hKernelIdeal) (hPre_bf16_numbers := hPre_bf16_numbers)
    ∧ quiescent_ReferenceIdeal (hReferenceIdeal := hReferenceIdeal)
    ∧ quiescent_ReferenceIdeal_pre_bf16_numbers (hReferenceIdeal := hReferenceIdeal) (hPre_bf16_numbers := hPre_bf16_numbers)
    ∧ preserves_Kernel_KernelIdeal
    ∧ algebraic_KernelIdeal_ReferenceIdeal_pre_bf16_numbers (hKernelIdeal := hKernelIdeal) (hReferenceIdeal := hReferenceIdeal) (hPre_bf16_numbers := hPre_bf16_numbers)
-- ==== Pre_bf16_numbers.lean ====
abbrev S2x1536x4608 : Shape := ⟨3, ![2, 1536, 4608]⟩
abbrev S2x1536x2048 : Shape := ⟨3, ![2, 1536, 2048]⟩
abbrev S4608x2048 : Shape := ⟨2, ![4608, 2048]⟩
abbrev S_ : Shape := ⟨0, ![]⟩

class Facts : Prop where
  bcast_S_S2x1536x4608 : S_.BroadcastsInDim S2x1536x4608 (![] : Fin 0 → Fin S2x1536x4608.rank)
  bcast_S_S2x1536x2048 : S_.BroadcastsInDim S2x1536x2048 (![] : Fin 0 → Fin S2x1536x2048.rank)

variable [Facts]

def fn {F : FTy → Type} [FloatOps F] (main_arg0 : FVec F S2x1536x4608 .bf16) (main_arg1 : FVec F S2x1536x2048 .bf16) (main_arg2 : FVec F S4608x2048 .f32) : IVec S2x1536x4608 1 × IVec S2x1536x2048 1 :=
  let main_v0 : FVec F S2x1536x4608 .bf16 := Host.absf main_arg0
  let main_cst : FVec F S_ .bf16 := constant S_ .bf16 0x7F7F#16
  let main_v1 : FVec F S2x1536x4608 .bf16 := broadcastInDim S2x1536x4608 ![] bcast_S_S2x1536x4608 main_cst
  let main_v2 : IVec S2x1536x4608 1 := cmpf .ole main_v0 main_v1
  let main_v3 : FVec F S2x1536x4608 .bf16 := Host.absf main_arg0
  let main_cst_0 : FVec F S_ .bf16 := constant S_ .bf16 0x7F80#16
  let main_v4 : FVec F S2x1536x4608 .bf16 := broadcastInDim S2x1536x4608 ![] bcast_S_S2x1536x4608 main_cst_0
  let main_v5 : IVec S2x1536x4608 1 := cmpf .oeq main_v3 main_v4
  let main_v6 : IVec S2x1536x4608 1 := ori main_v2 main_v5
  let main_v7 : FVec F S2x1536x2048 .bf16 := Host.absf main_arg1
  let main_cst_1 : FVec F S_ .bf16 := constant S_ .bf16 0x7F7F#16
  let main_v8 : FVec F S2x1536x2048 .bf16 := broadcastInDim S2x1536x2048 ![] bcast_S_S2x1536x2048 main_cst_1
  let main_v9 : IVec S2x1536x2048 1 := cmpf .ole main_v7 main_v8
  let main_v10 : FVec F S2x1536x2048 .bf16 := Host.absf main_arg1
  let main_cst_2 : FVec F S_ .bf16 := constant S_ .bf16 0x7F80#16
  let main_v11 : FVec F S2x1536x2048 .bf16 := broadcastInDim S2x1536x2048 ![] bcast_S_S2x1536x2048 main_cst_2
  let main_v12 : IVec S2x1536x2048 1 := cmpf .oeq main_v10 main_v11
  let main_v13 : IVec S2x1536x2048 1 := ori main_v9 main_v12
  (main_v6, main_v13)
-- ==== Kernel.lean ====
abbrev S2x1536x4608 : Shape := ⟨3, ![2, 1536, 4608]⟩
abbrev S2x1536x2048 : Shape := ⟨3, ![2, 1536, 2048]⟩
abbrev S4608x2048 : Shape := ⟨2, ![4608, 2048]⟩
abbrev S3072x4608 : Shape := ⟨2, ![3072, 4608]⟩
abbrev S3072x2048 : Shape := ⟨2, ![3072, 2048]⟩
abbrev S18x1x256 : Shape := ⟨3, ![18, 1, 256]⟩
abbrev S8x1x256 : Shape := ⟨3, ![8, 1, 256]⟩
abbrev S3072x256 : Shape := ⟨2, ![3072, 256]⟩
abbrev S256x2048 : Shape := ⟨2, ![256, 2048]⟩
abbrev S1x1x256 : Shape := ⟨3, ![1, 1, 256]⟩
abbrev S1x2048 : Shape := ⟨2, ![1, 2048]⟩
abbrev S256 : Shape := ⟨1, ![256]⟩
abbrev S1x256 : Shape := ⟨2, ![1, 256]⟩
abbrev S256x256 : Shape := ⟨2, ![256, 256]⟩
abbrev S8x256 : Shape := ⟨2, ![8, 256]⟩
abbrev S256x8 : Shape := ⟨2, ![256, 8]⟩
abbrev S256x1 : Shape := ⟨2, ![256, 1]⟩
abbrev S4608 : Shape := ⟨1, ![4608]⟩
abbrev S2048 : Shape := ⟨1, ![2048]⟩

abbrev nBuf : Space → Nat
  | .hbm => 14
  | .vmem => 18
  | .smem => 0
  | _ => 0

abbrev bufTy : (tb : Table) → Fin (tcTables nBuf tb) → BufTy
  | .hbm, ⟨0, _⟩ => ⟨S2x1536x4608, .bf16⟩
  | .hbm, ⟨1, _⟩ => ⟨S2x1536x2048, .bf16⟩
  | .hbm, ⟨2, _⟩ => ⟨S4608x2048, .f32⟩
  | .hbm, ⟨3, _⟩ => ⟨S3072x4608, .bf16⟩
  | .hbm, ⟨4, _⟩ => ⟨S3072x2048, .bf16⟩
  | .hbm, ⟨5, _⟩ => ⟨S4608x2048, .f32⟩
  | .hbm, ⟨6, _⟩ => ⟨S3072x4608, .fp8e4m3⟩
  | .hbm, ⟨7, _⟩ => ⟨S18x1x256, .f32⟩
  | .hbm, ⟨8, _⟩ => ⟨S3072x2048, .fp8e5m2⟩
  | .hbm, ⟨9, _⟩ => ⟨S8x1x256, .f32⟩
  | .hbm, ⟨10, _⟩ => ⟨S2x1536x4608, .fp8e4m3⟩
  | .hbm, ⟨11, _⟩ => ⟨S4608, .f32⟩
  | .hbm, ⟨12, _⟩ => ⟨S2x1536x2048, .fp8e5m2⟩
  | .hbm, ⟨13, _⟩ => ⟨S2048, .f32⟩
  | .local _ .vmem, ⟨0, _⟩ => ⟨S3072x256, .bf16⟩
  | .local _ .vmem, ⟨1, _⟩ => ⟨S3072x256, .bf16⟩
  | .local _ .vmem, ⟨2, _⟩ => ⟨S3072x256, .bf16⟩
  | .local _ .vmem, ⟨3, _⟩ => ⟨S3072x256, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S3072x256, .fp8e4m3⟩
  | .local _ .vmem, ⟨9, _⟩ => ⟨S3072x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S3072x256, .fp8e5m2⟩
  | .local _ .vmem, ⟨13, _⟩ => ⟨S3072x256, .fp8e5m2⟩
  | .local _ .vmem, ⟨14, _⟩ => ⟨S1x1x256, .f32⟩
  | .local _ .vmem, ⟨15, _⟩ => ⟨S1x1x256, .f32⟩
  | .local _ .vmem, ⟨16, _⟩ => ⟨S3072x2048, .fp8e5m2⟩
  | .local _ .vmem, ⟨17, _⟩ => ⟨S1x2048, .f32⟩
  | _, _ => ⟨S2x1536x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v60 : BitVec 32 := Scalar.muli arg0 c256_i32
  v60
def k0_off1 (i : grid0.Coords) : Fin 2 → Nat :=
  let c0_20 : Index := 0#32
  let arg0 : BitVec 32 := BitVec.ofNat 32 (i 0).val
  let c256_i32 : BitVec 32 := 256#32
  let v60 : BitVec 32 := Scalar.muli arg0 c256_i32
  let v61 : BitVec 32 := v60
  let v62 : Index := Scalar.indexCast v61
  ![0, v62.toNat]
def k0_off2 (i : grid0.Coords) : Fin 2 → Nat :=
  let c0_21 : Index := 0#32
  let arg0 : BitVec 32 := BitVec.ofNat 32 (i 0).val
  let c256_i32 : BitVec 32 := 256#32
  let v60 : BitVec 32 := Scalar.muli arg0 c256_i32
  let v61 : BitVec 32 := v60
  let v66 : Index := Scalar.indexCast v61
  ![0, v66.toNat]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x1536x4608 : Shape := ⟨3, ![2, 1536, 4608]⟩
abbrev S2x1536x2048 : Shape := ⟨3, ![2, 1536, 2048]⟩
abbrev S4608x2048 : Shape := ⟨2, ![4608, 2048]⟩
abbrev S3072x4608 : Shape := ⟨2, ![3072, 4608]⟩
abbrev S3072x2048 : Shape := ⟨2, ![3072, 2048]⟩
abbrev S1x4608 : Shape := ⟨2, ![1, 4608]⟩
abbrev S1x2048 : Shape := ⟨2, ![1, 2048]⟩
abbrev S4608 : Shape := ⟨1, ![4608]⟩
abbrev S2048 : Shape := ⟨1, ![2048]⟩
abbrev S4608x1 : Shape := ⟨2, ![4608, 1]⟩

abbrev nBuf : Space → Nat
  | .hbm => 14
  | .vmem => 8
  | .smem => 0
  | _ => 0

abbrev bufTy : (tb : Table) → Fin (tcTables nBuf tb) → BufTy
  | .hbm, ⟨0, _⟩ => ⟨S2x1536x4608, .bf16⟩
  | .hbm, ⟨1, _⟩ => ⟨S2x1536x2048, .bf16⟩
  | .hbm, ⟨2, _⟩ => ⟨S4608x2048, .f32⟩
  | .hbm, ⟨3, _⟩ => ⟨S3072x4608, .bf16⟩
  | .hbm, ⟨4, _⟩ => ⟨S3072x2048, .bf16⟩
  | .hbm, ⟨5, _⟩ => ⟨S4608x2048, .f32⟩
  | .hbm, ⟨6, _⟩ => ⟨S3072x4608, .fp8e4m3⟩
  | .hbm, ⟨7, _⟩ => ⟨S1x4608, .f32⟩
  | .hbm, ⟨8, _⟩ => ⟨S3072x2048, .fp8e5m2⟩
  | .hbm, ⟨9, _⟩ => ⟨S1x2048, .f32⟩
  | .hbm, ⟨10, _⟩ => ⟨S2x1536x4608, .fp8e4m3⟩
  | .hbm, ⟨11, _⟩ => ⟨S4608, .f32⟩
  | .hbm, ⟨12, _⟩ => ⟨S2x1536x2048, .fp8e5m2⟩
  | .hbm, ⟨13, _⟩ => ⟨S2048, .f32⟩
  | .local _ .vmem, ⟨0, _⟩ => ⟨S3072x4608, .bf16⟩
  | .local _ .vmem, ⟨1, _⟩ => ⟨S3072x2048, .bf16⟩
  | .local _ .vmem, ⟨2, _⟩ => ⟨S4608x2048, .f32⟩
  | .local _ .vmem, ⟨3, _⟩ => ⟨S4608x2048, .f32⟩
  | .local _ .vmem, ⟨4, _⟩ => ⟨S3072x4608, .fp8e4m3⟩
  | .local _ .vmem, ⟨5, _⟩ => ⟨S1x4608, .f32⟩
  | .local _ .vmem, ⟨6, _⟩ => ⟨S3072x2048, .fp8e5m2⟩
  | .local _ .vmem, ⟨7, _⟩ => ⟨S1x2048, .f32⟩
  | _, _ => ⟨S2x1536x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x2048 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.PrintedBody.lean ====
/-
   The body of the kernel as printed, on any staging buffers, with every value it stores named: one triple for a point that
   quantises a block of `dy` (`run_quantise`) and one for a point that quantises a block of `x` and multiplies it
   with the codes of `dy` kept in scratch (`run_multiply`).
-/
module

public import proofs.«01_k».proof.Proof.Gen.Kernel.Frame
public import proofs.«01_k».proof.Proof.Gen.Kernel.Skeleton
public import Idealize.ShloMosaic.Lib.Claim
public import Idealize.ShloMosaic.Lib.VecWindow

@[expose] public section

-- membership in a rectangle of production extents recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point quantises a block of `dy`. -/
abbrev onDy (i : grid0.Coords) : Prop := k0_cond1 i = 1#1
/-- It does at the first 8 points. -/
theorem onDy_iff : ∀ t : Fin cfg0.N, onDy (grid0.coords t) ↔ t.val < 8 :=
  (by decide +kernel : ∀ t : Fin grid0.N, onDy (grid0.coords t) ↔ t.val < 8)
/-- The point quantises a block of `x` and writes a block of the product. -/
abbrev onX (i : grid0.Coords) : Prop := k0_cond2 i = 1#1
/-- It does at the other 18. -/
theorem onX_iff : ∀ t : Fin cfg0.N, onX (grid0.coords t) ↔ 8 ≤ t.val :=
  (by decide +kernel : ∀ t : Fin grid0.N, onX (grid0.coords t) ↔ 8 ≤ t.val)

/-- A load of a whole rank-2 buffer reads its contents. -/
theorem load_whole {d0 d1 : Nat} {e : EltTy} {arg : Memref sig .tc .vmem ⟨2, ![d0, d1]⟩ e} (harg : arg.IsWhole)
    (x : Vec F ⟨2, ![d0, d1]⟩ e) (inb : ∀ a, (![0, 0] : Fin 2 → Nat) a + (![d0, d1] : Fin 2 → Nat) a ≤ (![d0, d1] : Fin 2 → Nat) a) :
    arg.view.readAt (Elt F) (Rect.unit (s := ⟨2, ![d0, d1]⟩) ![0, 0] ![d0, d1] inb).toLoadRect (harg.unread x) = x :=
  (View.readAt_full arg.view (harg.unread x) inb).trans (harg.read_unread x)

/-- The codes of a block of `dy`: what a point of the first kind stores. -/
def dyCodes (dy : Vec F S3072x256 .bf16) : Vec F S3072x256 .fp8e5m2 := k0_pay1 (k0_pay8 dy) (k0_pay11 dy)
/-- The codes of a block of `x`: what a point of the second kind stores. -/
def xCodes (x : Vec F S3072x256 .bf16) : Vec F S3072x256 .fp8e4m3 := k0_pay5 (k0_pay12 x) (k0_pay15 x)
/-- The block of the accumulated product: from a block of `x`, a block of the accumulator, all codes of `dy` and all
    its scales. -/
def outBlock (x : Vec F S3072x256 .bf16) (mg : Vec F S256x2048 .f32) (s0 : Vec F S3072x2048 .fp8e5m2) (s1 : Vec F S1x2048 .f32) :
    Vec F S256x2048 .f32 := k0_pay7 (k0_pay12 x) (k0_pay14 x) (k0_pay15 x) s0 mg s1

/-- The kept codes `s` with those of the block `dy` put in the `k`-th 256 columns. -/
def putCodes (dy : Vec F S3072x256 .bf16) (k : Nat) (s : Vec F S3072x2048 .fp8e5m2) : Vec F S3072x2048 .fp8e5m2 :=
  VecWindow.put s ![0, 256 * k] ![3072, 256] (k0_pay3 (k0_pay8 dy) (k0_pay11 dy))
/-- The kept scales `s` with those of the block `dy` put in the `k`-th 256 columns. -/
def putScale (dy : Vec F S3072x256 .bf16) (k : Nat) (s : Vec F S1x2048 .f32) : Vec F S1x2048 .f32 :=
  VecWindow.put s ![0, 256 * k] ![1, 256] (k0_pay4 (k0_pay10 dy))

set_option maxHeartbeats 1000000 in
/-- A point that quantises a block of `dy`. -/
theorem run_quantise (c : Dev nD) (i : grid0.Coords) (arg1 : Memref sig .tc .vmem S3072x256 .bf16) (harg1 : arg1.IsWhole) (arg2 : Memref sig .tc .vmem S3072x256 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S3072x256 .fp8e4m3) (harg5 : arg5.IsWhole) (arg6 : Memref sig .tc .vmem S1x1x256 .f32) (harg6 : arg6.IsWhole) (arg7 : Memref sig .tc .vmem S3072x256 .fp8e5m2) (harg7 : arg7.IsWhole) (arg8 : Memref sig .tc .vmem S1x1x256 .f32) (harg8 : arg8.IsWhole) (arg9 : Memref sig .tc .vmem S3072x2048 .fp8e5m2) (harg9 : arg9.IsWhole) (arg10 : Memref sig .tc .vmem S1x2048 .f32) (harg10 : arg10.IsWhole) (hc0 : onDy i) (hc1 : ¬onX i)
    (x : Vec F S3072x256 .bf16) (dy : Vec F S3072x256 .bf16) (mg : Vec F S256x2048 .f32) (o3 : Vec F S256x2048 .f32) (o4 : Vec F S3072x256 .fp8e4m3) (o5 : Vec F S1x1x256 .f32) (o6 : Vec F S3072x256 .fp8e5m2) (o7 : Vec F S1x1x256 .f32) (s0 : Vec F S3072x2048 .fp8e5m2) (s1 : Vec F S1x2048 .f32) :
      ∀ (E : Set ℕ) (K : PUnit → sProp 𝕄),
        iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare o6 ∗ owns (c : Thread nD τ) arg8 fullShare o7 ∗ owns (c : Thread nD τ) arg9 fullShare s0 ∗ owns (c : Thread nD τ) arg10 fullShare s1
            ∗ (iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare (dyCodes dy) ∗ owns (c : Thread nD τ) arg8 fullShare (k0_pay2 (k0_pay10 dy)) ∗ owns (c : Thread nD τ) arg9 fullShare (putCodes dy (i 0).val s0) ∗ owns (c : Thread nD τ) arg10 fullShare (putScale dy (i 0).val s1)) -∗ K ⟨⟩))
          ⊢ wp frame (wpE (defs₀ (F := F)) Variants.none c none) E (cc0_wgrad i arg1 harg1 arg2 harg2 arg3 harg3 arg4 harg4 arg5 harg5 arg6 harg6 arg7 harg7 arg8 harg8 arg9 harg9 arg10 harg10) K := by
    intro E K
    simp only [cc0_wgrad_eq_skeleton]; unfold cc0_wgrad_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_full _ _ _ _ _).trans ?_
      unfold run_quantise.sl.r run_quantise.sl.r_2
      simp only [load_whole, Memref.IsWhole.read_unread, View.writes_nil]
      rfl
    isplitl [H7]
    · iexists _; isplitr; swap; · iexact H7
      ipureintro
      refine (View.read_writes_full _ _ _ _ _).trans ?_
      unfold run_quantise.sl.r_1
      simp only [load_whole, Memref.IsWhole.read_unread, View.writes_nil]
    isplitl [HS0]
    · iexists _; isplitr; swap; · iexact HS0
      ipureintro
      refine ((View.read_writes_cons_put _ _ _ _ _ (k0_off1_eq i))).trans ?_
      unfold run_quantise.sl.r run_quantise.sl.r_2
      simp only [load_whole, Memref.IsWhole.read_unread, View.writes_nil]
      rfl
    iexists _; isplitr; swap; · iexact HS1
    ipureintro
    refine ((View.read_writes_cons_put _ _ _ _ _ (k0_off2_eq i))).trans ?_
    unfold run_quantise.sl.r_1
    simp only [load_whole, Memref.IsWhole.read_unread, View.writes_nil]
    rfl

set_option maxHeartbeats 1000000 in
/-- A point that quantises a block of `x` and multiplies. -/
theorem run_multiply (c : Dev nD) (i : grid0.Coords) (arg1 : Memref sig .tc .vmem S3072x256 .bf16) (harg1 : arg1.IsWhole) (arg2 : Memref sig .tc .vmem S3072x256 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S3072x256 .fp8e4m3) (harg5 : arg5.IsWhole) (arg6 : Memref sig .tc .vmem S1x1x256 .f32) (harg6 : arg6.IsWhole) (arg7 : Memref sig .tc .vmem S3072x256 .fp8e5m2) (harg7 : arg7.IsWhole) (arg8 : Memref sig .tc .vmem S1x1x256 .f32) (harg8 : arg8.IsWhole) (arg9 : Memref sig .tc .vmem S3072x2048 .fp8e5m2) (harg9 : arg9.IsWhole) (arg10 : Memref sig .tc .vmem S1x2048 .f32) (harg10 : arg10.IsWhole) (hc0 : ¬onDy i) (hc1 : onX i)
    (x : Vec F S3072x256 .bf16) (dy : Vec F S3072x256 .bf16) (mg : Vec F S256x2048 .f32) (o3 : Vec F S256x2048 .f32) (o4 : Vec F S3072x256 .fp8e4m3) (o5 : Vec F S1x1x256 .f32) (o6 : Vec F S3072x256 .fp8e5m2) (o7 : Vec F S1x1x256 .f32) (s0 : Vec F S3072x2048 .fp8e5m2) (s1 : Vec F S1x2048 .f32) :
      ∀ (E : Set ℕ) (K : PUnit → sProp 𝕄),
        iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare o6 ∗ owns (c : Thread nD τ) arg8 fullShare o7 ∗ owns (c : Thread nD τ) arg9 fullShare s0 ∗ owns (c : Thread nD τ) arg10 fullShare s1
            ∗ (iprop(owns (c : Thread nD τ) arg1 fullShare x ∗ owns (c : Thread nD τ) arg2 fullShare dy ∗ owns (c : Thread nD τ) arg3 fullShare mg ∗ owns (c : Thread nD τ) arg4 fullShare (outBlock x mg s0 s1) ∗ owns (c : Thread nD τ) arg5 fullShare (xCodes x) ∗ owns (c : Thread nD τ) arg6 fullShare (k0_pay6 (k0_pay14 x)) ∗ owns (c : Thread nD τ) arg7 fullShare o6 ∗ owns (c : Thread nD τ) arg8 fullShare o7 ∗ owns (c : Thread nD τ) arg9 fullShare s0 ∗ owns (c : Thread nD τ) arg10 fullShare s1) -∗ K ⟨⟩))
          ⊢ wp frame (wpE (defs₀ (F := F)) Variants.none c none) E (cc0_wgrad i arg1 harg1 arg2 harg2 arg3 harg3 arg4 harg4 arg5 harg5 arg6 harg6 arg7 harg7 arg8 harg8 arg9 harg9 arg10 harg10) K := by
    intro E K
    simp only [cc0_wgrad_eq_skeleton]; unfold cc0_wgrad_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (View.read_writes_full _ _ _ _ _).trans ?_
      unfold run_multiply.sl.r run_multiply.sl.r_1 run_multiply.sl.r_2
      simp only [load_whole, Memref.IsWhole.read_unread, View.writes_nil]
      rfl
    isplitl [H4]
    · iexists _; isplitr; swap; · iexact H4
      ipureintro
      refine (View.read_writes_full _ _ _ _ _).trans ?_
      unfold run_multiply.sl.r run_multiply.sl.r_2
      simp only [load_whole, Memref.IsWhole.read_unread, View.writes_nil]
      rfl
    isplitl [H5]
    · iexists _; isplitr; swap; · iexact H5
      ipureintro
      refine (View.read_writes_full _ _ _ _ _).trans ?_
      unfold run_multiply.sl.r_1
      simp only [load_whole, Memref.IsWhole.read_unread, View.writes_nil]
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _; isplitr; · ipureintro; exact harg10.read_unread _
    iexact HS1

end Cert.Kernel.Run

end
-- ==== Proof.PrintedRun.lean ====
/-
   The run of the kernel as printed, with what it leaves in every buffer named: what the scratch holds point by point (`Kept`), the
   pipeline's proof data (`dats`), the body obligation, the run and the frame.
-/
module

public import proofs.«01_k».proof.Proof.PrintedBody
public import Idealize.ShloMosaic.Lib.Claim
public import Idealize.ShloMosaic.Lib.VecWindow
public import Idealize.ShloMosaic.Lib.Pointwise.Index
public import Idealize.ShloMosaic.Lib.Pipeline.Value

@[expose] public section

-- membership in a rectangle of production extents recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows hold -/

/-- The point of number `n`. -/
abbrev pt (n : Nat) (h : n < 26) : Fin cfg0.N := ⟨n, lt_of_lt_of_eq h (show (26 : Nat) = cfg0.N from N_0.symm)⟩

/-- The block of `x`, of `dy` and of the accumulator at a point. -/
abbrev xBlk (c : Dev nD) (t : Fin cfg0.N) : Vec F S3072x256 .bf16 := iblk m c 0 t
abbrev dyBlk (c : Dev nD) (t : Fin cfg0.N) : Vec F S3072x256 .bf16 := iblk m c 1 t
abbrev mgBlk (c : Dev nD) (t : Fin cfg0.N) : Vec F S256x2048 .f32 := iblk m c 2 t

/-- The last point at or before `t` that quantises a block of `dy`. -/
def lastDy (t : Fin cfg0.N) : Fin cfg0.N := pt (min t.val 7) (by omega)

theorem lastDy_of_lt (t : Fin cfg0.N) (h : t.val < 8) : lastDy t = t := Fin.ext (by show min t.val 7 = t.val; omega)

/-- All codes of `dy`: column `j` from the point that quantises its block. -/
def allCodes (c : Dev nD) : Vec F S3072x2048 .fp8e5m2 := fun y =>
  dyCodes (dyBlk m c (pt ((y (1 : Fin 2)).val / 256) (by have : (y (1 : Fin 2)).val < 2048 := (y 1).isLt; omega)))
    (ix2 (y (0 : Fin 2)) ⟨(y (1 : Fin 2)).val % 256, Nat.mod_lt _ (by decide)⟩)

/-- All scales of `dy`. -/
def allScales (c : Dev nD) : Vec F S1x2048 .f32 := fun y =>
  k0_pay10 (dyBlk m c (pt ((y (1 : Fin 2)).val / 256) (by have : (y (1 : Fin 2)).val < 2048 := (y 1).isLt; omega)))
    (ix2 (y (0 : Fin 2)) ⟨(y (1 : Fin 2)).val % 256, Nat.mod_lt _ (by decide)⟩)

/-- What the scratch holds before point `k`: the codes and scales of the blocks of `dy` quantised so far. -/
def Kept (c : Dev nD) (k : Nat) (s0 : Vec F S3072x2048 .fp8e5m2) (s1 : Vec F S1x2048 .f32) : Prop :=
  (∀ y, (y (1 : Fin 2)).val < 256 * k → s0 y = allCodes m c y) ∧ (∀ y, (y (1 : Fin 2)).val < 256 * k → s1 y = allScales m c y)

/-- Putting a block of 256 columns, read at a column before the block's end, given the columns before it. -/
theorem put_block {n : Nat} {A : Type} (s : (⟨2, ![n, 2048]⟩ : Shape).Idx → A) (k : Nat) (w : (⟨2, ![n, 256]⟩ : Shape).Idx → A)
    (y : (⟨2, ![n, 2048]⟩ : Shape).Idx) (h : (y (1 : Fin 2)).val < 256 * (k + 1)) :
    VecWindow.put s ![0, 256 * k] ![n, 256] w y
      = if 256 * k ≤ (y (1 : Fin 2)).val then w (ix2 (y (0 : Fin 2)) ⟨(y (1 : Fin 2)).val % 256, Nat.mod_lt _ (by decide)⟩) else s y := by
  unfold VecWindow.put
  by_cases hk : 256 * k ≤ (y (1 : Fin 2)).val
  · rw [if_pos hk, dif_pos (Fin.forall_fin_two.mpr ⟨⟨Nat.zero_le _, by
      show (y (0 : Fin 2)).val < 0 + n
      rw [Nat.zero_add]; exact (y (0 : Fin 2)).isLt⟩, hk, by show (y (1 : Fin 2)).val < 256 * k + 256; omega⟩)]
    refine congrArg w (funext fun a => ?_)
    match a with
    | ⟨0, _⟩ => exact Fin.ext (Nat.sub_zero _)
    | ⟨1, _⟩ => exact Fin.ext (show (y (1 : Fin 2)).val - 256 * k = (y (1 : Fin 2)).val % 256 by omega)
  · rw [if_neg hk, dif_neg fun hall => hk (hall (1 : Fin 2)).1]

/-- A point that quantises a block of `dy` keeps its codes and scales too. -/
theorem kept_put (c : Dev nD) (t : Fin cfg0.N) (ht : t.val < 8) {s0 : Vec F S3072x2048 .fp8e5m2} {s1 : Vec F S1x2048 .f32}
    (h : Kept m c t.val s0 s1) : Kept m c (t.val + 1) (putCodes (dyBlk m c t) t.val s0) (putScale (dyBlk m c t) t.val s1) := by
  have hp : ∀ (j : Nat) (hj : j / 256 < 26), 256 * t.val ≤ j → j < 256 * (t.val + 1) → pt (j / 256) hj = t := fun j hj h1 h2 =>
    Fin.ext (show j / 256 = t.val by omega)
  constructor
  · intro y hy
    unfold putCodes
    refine (put_block s0 t.val _ y hy).trans ?_
    split
    · rename_i hk
      unfold allCodes k0_pay3 dyCodes
      rw [hp _ _ hk hy, shapeCast_self]
    · exact h.1 y (by omega)
  · intro y hy
    unfold putScale
    refine (put_block s1 t.val _ y hy).trans ?_
    split
    · rename_i hk
      unfold allScales k0_pay4
      rw [hp _ _ hk hy, shapeCast_self]
    · exact h.2 y (by omega)

/-- From the ninth point on the scratch holds everything. -/
theorem kept_all (c : Dev nD) (k : Nat) (hk : 8 ≤ k) {s0 : Vec F S3072x2048 .fp8e5m2} {s1 : Vec F S1x2048 .f32}
    (h : Kept m c k s0 s1) : s0 = allCodes m c ∧ s1 = allScales m c :=
  ⟨funext fun y => h.1 y (by have : (y (1 : Fin 2)).val < 2048 := (y 1).isLt; omega),
    funext fun y => h.2 y (by have : (y (1 : Fin 2)).val < 2048 := (y 1).isLt; omega)⟩

/-- And does so at every later point. -/
theorem kept_of_all (c : Dev nD) (k : Nat) : Kept m c k (allCodes m c) (allScales m c) := ⟨fun _ _ => rfl, fun _ _ => rfl⟩

/-- The block of the accumulated product at a point. -/
def outAt (c : Dev nD) (t : Fin cfg0.N) : Vec F S256x2048 .f32 :=
  outBlock (xBlk m c t) (mgBlk m c t) (allCodes m c) (allScales m c)

/-! ## The pipeline's proof data -/

/-- The two scratch buffers. -/
abbrev scM0 : Memref sig .tc .vmem S3072x2048 .fp8e5m2 := Memref.whole cc0_scratch0
abbrev scM1 : Memref sig .tc .vmem S1x2048 .f32 := Memref.whole cc0_scratch1

/-- The launch's invariant with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What holds before point `k` beside the windows. -/
def inv (c : Dev nD) (k : Nat) : sProp 𝕄 :=
  iprop((∃ s0 s1, ⌜Kept m c k s0 s1⌝ ∗ owns (c : Thread nD τ) scM0 fullShare s0 ∗ owns (c : Thread nD τ) scM1 fullShare s1) ∗ (∃ r, prngReg c r))

/-- The proof data of the pipeline on core `c`: the arrays as the region finds them; after a point each input's buffer at
    its block, the outputs of the points on `x` at the values stored there, the outputs of the points on `dy` at the
    values the last such point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => xCodes (xBlk m c t)
    | ⟨5, _⟩ => k0_pay6 (k0_pay14 (xBlk m c t))
    | ⟨6, _⟩ => dyCodes (dyBlk m c (lastDy t))
    | ⟨7, _⟩ => k0_pay2 (k0_pay10 (dyBlk m c (lastDy t)))
  Φ t := inv m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem after_4 (c : Dev nD) (t : Fin cfg0.N) : (dats m 0 c).after 4 t = xCodes (xBlk m c t) := by dsimp only [dats]
theorem after_5 (c : Dev nD) (t : Fin cfg0.N) : (dats m 0 c).after 5 t = k0_pay6 (k0_pay14 (xBlk m c t)) := by dsimp only [dats]
theorem after_6 (c : Dev nD) (t : Fin cfg0.N) : (dats m 0 c).after 6 t = dyCodes (dyBlk m c (lastDy t)) := by dsimp only [dats]
theorem after_7 (c : Dev nD) (t : Fin cfg0.N) : (dats m 0 c).after 7 t = k0_pay2 (k0_pay10 (dyBlk m c (lastDy t))) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where the windows are idle, and where they are written back -/

theorem live_in (w : Fin cfg0.W) (hw : w.val < 3) (t : Fin cfg0.N) : cfg0.idle w (grid0.coords t) = false := by
  match w, hw with
  | ⟨0, _⟩, _ => rfl
  | ⟨1, _⟩, _ => rfl
  | ⟨2, _⟩, _ => rfl

/-- The outputs of the points on `x` are idle before, and not written back there. -/
theorem idle_x : ∀ t : Fin cfg0.N, t.val < 8 → (cfg0.idle 3 (grid0.coords t) = true ∧ cfg0.idle 4 (grid0.coords t) = true ∧ cfg0.idle 5 (grid0.coords t) = true) :=
  (by decide +kernel : ∀ t : Fin grid0.N, t.val < 8 → (cfg0.idle 3 (grid0.coords t) = true ∧ cfg0.idle 4 (grid0.coords t) = true ∧ cfg0.idle 5 (grid0.coords t) = true))
theorem noflush_x : ∀ t : Fin cfg0.N, t.val < 8 → ((cfg0.win 3).flush t = false ∧ (cfg0.win 4).flush t = false ∧ (cfg0.win 5).flush t = false) :=
  (by decide +kernel : ∀ t : Fin grid0.N, t.val < 8 → ((cfg0.win 3).flush t = false ∧ (cfg0.win 4).flush t = false ∧ (cfg0.win 5).flush t = false))
theorem live_x : ∀ t : Fin cfg0.N, 8 ≤ t.val → (cfg0.idle 3 (grid0.coords t) = false ∧ cfg0.idle 4 (grid0.coords t) = false ∧ cfg0.idle 5 (grid0.coords t) = false) :=
  (by decide +kernel : ∀ t : Fin grid0.N, 8 ≤ t.val → (cfg0.idle 3 (grid0.coords t) = false ∧ cfg0.idle 4 (grid0.coords t) = false ∧ cfg0.idle 5 (grid0.coords t) = false))
/-- The outputs of the points on `dy` are idle after, and written back there at the very last point only. -/
theorem live_dy : ∀ t : Fin cfg0.N, t.val < 8 → (cfg0.idle 6 (grid0.coords t) = false ∧ cfg0.idle 7 (grid0.coords t) = false) :=
  (by decide +kernel : ∀ t : Fin grid0.N, t.val < 8 → (cfg0.idle 6 (grid0.coords t) = false ∧ cfg0.idle 7 (grid0.coords t) = false))
theorem idle_dy : ∀ t : Fin cfg0.N, 8 ≤ t.val → (cfg0.idle 6 (grid0.coords t) = true ∧ cfg0.idle 7 (grid0.coords t) = true) :=
  (by decide +kernel : ∀ t : Fin grid0.N, 8 ≤ t.val → (cfg0.idle 6 (grid0.coords t) = true ∧ cfg0.idle 7 (grid0.coords t) = true))
theorem noflush_dy : ∀ t : Fin cfg0.N, 7 ≤ t.val → t.val < 25 → ((cfg0.win 6).flush t = false ∧ (cfg0.win 7).flush t = false) :=
  (by decide +kernel : ∀ t : Fin grid0.N, 7 ≤ t.val → t.val < 25 → ((cfg0.win 6).flush t = false ∧ (cfg0.win 7).flush t = false))
theorem flush_dy : ∀ t : Fin cfg0.N, 25 ≤ t.val → ((cfg0.win 6).flush t = true ∧ (cfg0.win 7).flush t = true) :=
  (by decide +kernel : ∀ t : Fin grid0.N, 25 ≤ t.val → ((cfg0.win 6).flush t = true ∧ (cfg0.win 7).flush t = true))

/-- What an output holds before the point after `t` is what `t` left, when `t` does not write it back. -/
theorem before_next (c : Dev nD) (w : Fin cfg0.W) (t t' : Fin cfg0.N) (h : t'.val = t.val + 1) (hfe : (cfg0.win w).fetch t' = false)
    (hfl : (cfg0.win w).flush t = false) (d) : (dats m 0 c).before w t' d = (dats m 0 c).left w t d := by
  have ht : (⟨t'.val - 1, Nat.lt_of_le_of_lt (Nat.sub_le _ 1) t'.isLt⟩ : Fin cfg0.N) = t := Fin.ext (by show t'.val - 1 = t.val; omega)
  rw [(dats m 0 c).before_of_pos w t' (by omega) hfe, ht, hfl]
  exact if_neg (by decide)

theorem left_live (c : Dev nD) (w : Fin cfg0.W) (t : Fin cfg0.N) (h : cfg0.idle w (grid0.coords t) = false) (d) :
    (dats m 0 c).left w t d = (dats m 0 c).kept w t d := by
  unfold Dat.left; rw [show cfg0.idle w (cfg0.grid.coords t) = false from h]

theorem left_idle (c : Dev nD) (w : Fin cfg0.W) (t : Fin cfg0.N) (h : cfg0.idle w (grid0.coords t) = true) (d) :
    (dats m 0 c).left w t d = (dats m 0 c).before w t d := by
  unfold Dat.left; rw [show cfg0.idle w (cfg0.grid.coords t) = true from h]

/-- From the ninth point on the outputs of the points on `dy` hold what the eighth stored. -/
theorem before_dy (c : Dev nD) (n : Nat) (h7 : 8 ≤ n) (hn : n < 26) (d6 d7) :
    (dats m 0 c).before 6 (pt n hn) d6 = (dats m 0 c).after 6 (pt n hn) ∧ (dats m 0 c).before 7 (pt n hn) d7 = (dats m 0 c).after 7 (pt n hn) := by
  induction n, h7 using Nat.le_induction with
  | base =>
    have hf := noflush_dy (pt 7 (by decide)) (le_refl 7) (show 7 < 25 by decide)
    have hl := live_dy (pt 7 (by decide)) (show 7 < 8 by decide)
    constructor
    · rw [before_next m c 6 (pt 7 (by decide)) _ rfl rfl hf.1, left_live m c _ _ hl.1, after_6]
      exact after_6 m c (pt 7 (by decide))
    · rw [before_next m c 7 (pt 7 (by decide)) _ rfl rfl hf.2, left_live m c _ _ hl.2, after_7]
      exact after_7 m c (pt 7 (by decide))
  | succ n h7 ih =>
    have hl : lastDy (pt (n + 1) hn) = lastDy (pt n (by omega)) := Fin.ext (show min (n + 1) 7 = min n 7 by omega)
    have ih := ih (by omega)
    have hf := noflush_dy (pt n (by omega)) (show 7 ≤ n by omega) (show n < 25 by omega)
    have hi := idle_dy (pt n (by omega)) h7
    constructor
    · rw [before_next m c 6 (pt n (by omega)) _ rfl rfl hf.1, left_idle m c _ _ hi.1, after_6, hl, ← after_6]
      exact ih.1
    · rw [before_next m c 7 (pt n (by omega)) _ rfl rfl hf.2, left_idle m c _ _ hi.2, after_7, hl, ← after_7]
      exact ih.2

/-- A window live at a point ends it at its named contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- An output of the points on `dy`, left alone at a later point, is what the obligation asks. -/
theorem leaves_dy (c : Dev nD) (w : Fin cfg0.W) (hw : w = 6 ∨ w = 7) (t : Fin cfg0.N) (ht : 8 ≤ t.val) (d) :
    owns (c : Thread nD τ) ((cfg0.win w).stage (cfg0.slots t w)) fullShare ((dats m 0 c).before w t d) ⊢ (dats m 0 c).leavesExact w t := by
  have hN : t.val < 26 := lt_of_lt_of_eq t.isLt (show cfg0.N = 26 from N_0)
  have hidle : cfg0.idle w (grid0.coords t) = true := by
    rcases hw with rfl | rfl
    · exact (idle_dy t ht).1
    · exact (idle_dy t ht).2
  by_cases h25 : t.val < 25
  · have hfl : (cfg0.win w).flush t = false := by
      rcases hw with rfl | rfl
      · exact (noflush_dy t (by omega) h25).1
      · exact (noflush_dy t (by omega) h25).2
    rw [(dats m 0 c).leavesExact_idle w t hidle hfl]
    iintro H
    iexists _; iexact H
  · have hfl : (cfg0.win w).flush t = true := by
      rcases hw with rfl | rfl
      · exact (flush_dy t (by omega)).1
      · exact (flush_dy t (by omega)).2
    have hb : (dats m 0 c).before w t d = (dats m 0 c).after w t := by
      rcases hw with rfl | rfl
      · exact (before_dy m c t.val ht hN d ((dats m 0 c).after 7 t)).1
      · exact (before_dy m c t.val ht hN ((dats m 0 c).after 6 t) d).2
    unfold Dat.leavesExact; rw [hidle, hfl, hb]

/-! ## The body obligation -/

/-- Each window's current staging memref at a point, as the pipeline passes it. -/
abbrev ms (w : Fin cfg0.W) (t : Fin cfg0.N) := (cfg0.win w).stage (cfg0.slots t w)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The grid's one coordinate is the point's number. -/
theorem coord_val : ∀ t : Fin cfg0.N, (grid0.coords t 0).val = t.val :=
  (by decide +kernel : ∀ t : Fin grid0.N, (grid0.coords t 0).val = t.val)

set_option maxHeartbeats 1600000 in
/-- The body at any point: the inputs hold their blocks, the point's number says which of the two runs applies, and the
    scratch goes from what it holds before the point to what it holds after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = inv m c (t.val + 1) from rfl, show (dats m 0 c).Φ t.castSucc = inv m c t.val from rfl,
    show (dats m 0 c).owesAt () t.succ = (dats m 0 c).owesAt () t.castSucc from rfl]
  rw [leaves_live m c 0 t (live_in 0 (by decide) t), leaves_live m c 1 t (live_in 1 (by decide) t),
    leaves_live m c 2 t (live_in 2 (by decide) t), after_0, after_1, after_2]
  unfold inv
  by_cases h0 : t.val < 8
  · rw [(dats m 0 c).leavesExact_idle 3 t (idle_x t h0).1 (noflush_x t h0).1, (dats m 0 c).leavesExact_idle 4 t (idle_x t h0).2.1 (noflush_x t h0).2.1,
      (dats m 0 c).leavesExact_idle 5 t (idle_x t h0).2.2 (noflush_x t h0).2.2,
      leaves_live m c 6 t (live_dy t h0).1, leaves_live m c 7 t (live_dy t h0).2, after_6, after_7, lastDy_of_lt t h0]
    iintro ⟨⟨⟨%s0, %s1, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_quantise c (grid0.coords t) _ _ _ _ _ _ _ _ _ _ _ _ _ _ _ _ _ _ _ _ ((onDy_iff t).mpr h0) (fun h => absurd ((onX_iff t).mp h) (by omega))
      (iblk m c 0 t) (iblk m c 1 t) (iblk m c 2 t) _ _ _ _ _ s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _, _
        isplitr; swap
        · isplitl [HS0]
          · iexact HS0
          iexact HS1
        ipureintro
        rw [coord_val]
        exact kept_put m c t h0 hk
      iexact Hg
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iexact H7
  · have h8 : 8 ≤ t.val := by omega
    rw [leaves_live m c 3 t (live_x t h8).1, leaves_live m c 4 t (live_x t h8).2.1, leaves_live m c 5 t (live_x t h8).2.2, after_3, after_4, after_5]
    iintro ⟨⟨⟨%s0, %s1, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain ⟨rfl, rfl⟩ := kept_all m c t.val h8 hk
    iapply ((run_multiply c (grid0.coords t) _ _ _ _ _ _ _ _ _ _ _ _ _ _ _ _ _ _ _ _ (fun h => h0 ((onDy_iff t).mp h)) ((onX_iff t).mpr h8)
      (iblk m c 0 t) (iblk m c 1 t) (iblk m c 2 t) _ _ _ _ _ (allCodes m c) (allScales m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _, _
        isplitr; swap
        · isplitl [HS0]
          · iexact HS0
          iexact HS1
        ipureintro
        exact kept_of_all m c _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_dy m c 6 (.inl rfl) t h8 d6); iexact H6
    iapply (leaves_dy m c 7 (.inr rfl) t h8 d7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
set_option maxHeartbeats 800000 in
/-- The run: every window's array ends at the proof data's final contents, every other buffer at what the host lines
    after the region leave, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      show Pipeline.ΦA spec0 c ⊢ inv m c 0
      rw [PhiA_eq]; unfold inv
      iintro ⟨⟨⟨%s0, HS0⟩, ⟨%s1, HS1⟩⟩, Hg⟩
      isplitl [HS0 HS1]
      · iexists _, _
        isplitr; swap
        · isplitl [HS0]
          · iexact HS0
          iexact HS1
        ipureintro
        exact ⟨fun y h => absurd h (by omega), fun y h => absurd h (by omega)⟩
      iexact Hg)
    (hout := fun c => by
      show inv m c 26 ⊢ Pipeline.ΦA spec0 c
      rw [PhiA_eq]; unfold inv
      iintro ⟨⟨%s0, %s1, %hk, HS0, HS1⟩, Hg⟩
      isplitl [HS0 HS1]
      · isplitl [HS0]
        · iexists _; iexact HS0
        iexists _; iexact HS1
      iexact Hg)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the kernel runs, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.KernelBody.lean ====
/-
   The body of the kernel on any staging buffers, with every value it stores named: one triple for a point that
   quantises a block of `dy` (`run_quantise`) and one for a point that quantises a block of `x` and multiplies it
   with the codes of `dy` kept in scratch (`run_multiply`).
-/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

-- membership in a rectangle of production extents recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point quantises a block of `dy`. -/
abbrev onDy (i : grid0.Coords) : Prop := k0_cond1 i = 1#1
/-- It does at the first 8 points. -/
theorem onDy_iff : ∀ t : Fin cfg0.N, onDy (grid0.coords t) ↔ t.val < 8 :=
  (by decide +kernel : ∀ t : Fin grid0.N, onDy (grid0.coords t) ↔ t.val < 8)
/-- The point quantises a block of `x` and writes a block of the product. -/
abbrev onX (i : grid0.Coords) : Prop := k0_cond2 i = 1#1
/-- It does at the other 18. -/
theorem onX_iff : ∀ t : Fin cfg0.N, onX (grid0.coords t) ↔ 8 ≤ t.val :=
  (by decide +kernel : ∀ t : Fin grid0.N, onX (grid0.coords t) ↔ 8 ≤ t.val)

/-- A load of a whole rank-2 buffer reads its contents. -/
theorem load_whole {d0 d1 : Nat} {e : EltTy} {arg : Memref sig .tc .vmem ⟨2, ![d0, d1]⟩ e} (harg : arg.IsWhole)
    (x : Vec F ⟨2, ![d0, d1]⟩ e) (inb : ∀ a, (![0, 0] : Fin 2 → Nat) a + (![d0, d1] : Fin 2 → Nat) a ≤ (![d0, d1] : Fin 2 → Nat) a) :
    arg.view.readAt (Elt F) (Rect.unit (s := ⟨2, ![d0, d1]⟩) ![0, 0] ![d0, d1] inb).toLoadRect (harg.unread x) = x :=
  (View.readAt_full arg.view (harg.unread x) inb).trans (harg.read_unread x)

/-- The codes of a block of `dy`: what a point of the first kind stores. -/
def dyCodes (dy : Vec F S3072x256 .bf16) : Vec F S3072x256 .fp8e5m2 := k0_pay1 (k0_pay8 dy) (k0_pay11 dy)
/-- The codes of a block of `x`: what a point of the second kind stores. -/
def xCodes (x : Vec F S3072x256 .bf16) : Vec F S3072x256 .fp8e4m3 := k0_pay5 (k0_pay12 x) (k0_pay15 x)
/-- The block of the accumulated product: from a block of `x`, a block of the accumulator, all codes of `dy` and all
    its scales. -/
def outBlock (x : Vec F S3072x256 .bf16) (mg : Vec F S256x2048 .f32) (s0 : Vec F S3072x2048 .fp8e5m2) (s1 : Vec F S1x2048 .f32) :
    Vec F S256x2048 .f32 := k0_pay7 (k0_pay12 x) (k0_pay14 x) (k0_pay15 x) s0 mg s1

/-- The kept codes `s` with those of the block `dy` put in the `k`-th 256 columns. -/
def putCodes (dy : Vec F S3072x256 .bf16) (k : Nat) (s : Vec F S3072x2048 .fp8e5m2) : Vec F S3072x2048 .fp8e5m2 :=
  VecWindow.put s ![0, 256 * k] ![3072, 256] (k0_pay3 (k0_pay8 dy) (k0_pay11 dy))
/-- The kept scales `s` with those of the block `dy` put in the `k`-th 256 columns. -/
def putScale (dy : Vec F S3072x256 .bf16) (k : Nat) (s : Vec F S1x2048 .f32) : Vec F S1x2048 .f32 :=
  VecWindow.put s ![0, 256 * k] ![1, 256] (k0_pay4 (k0_pay10 dy))

set_option maxHeartbeats 1000000 in
/-- A point that quantises a block of `dy`. -/
theorem run_quantise (c : Dev nD) (i : grid0.Coords) (arg1 : Memref sig .tc .vmem S3072x256 .bf16) (harg1 : arg1.IsWhole) (arg2 : Memref sig .tc .vmem S3072x256 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S3072x256 .fp8e4m3) (harg5 : arg5.IsWhole) (arg6 : Memref sig .tc .vmem S1x1x256 .f32) (harg6 : arg6.IsWhole) (arg7 : Memref sig .tc .vmem S3072x256 .fp8e5m2) (harg7 : arg7.IsWhole) (arg8 : Memref sig .tc .vmem S1x1x256 .f32) (harg8 : arg8.IsWhole) (arg9 : Memref sig .tc .vmem S3072x2048 .fp8e5m2) (harg9 : arg9.IsWhole) (arg10 : Memref sig .tc .vmem S1x2048 .f32) (harg10 : arg10.IsWhole) (hc0 : onDy i) (hc1 : ¬onX i)
    (x : Vec F S3072x256 .bf16) (dy : Vec F S3072x256 .bf16) (mg : Vec F S256x2048 .f32) (o3 : Vec F S256x2048 .f32) (o4 : Vec F S3072x256 .fp8e4m3) (o5 : Vec F S1x1x256 .f32) (o6 : Vec F S3072x256 .fp8e5m2) (o7 : Vec F S1x1x256 .f32) (s0 : Vec F S3072x2048 .fp8e5m2) (s1 : Vec F S1x2048 .f32) :
      ∀ (E : Set ℕ) (K : PUnit → sProp 𝕄),
        iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare o6 ∗ owns (c : Thread nD τ) arg8 fullShare o7 ∗ owns (c : Thread nD τ) arg9 fullShare s0 ∗ owns (c : Thread nD τ) arg10 fullShare s1
            ∗ (iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare (dyCodes dy) ∗ owns (c : Thread nD τ) arg8 fullShare (k0_pay2 (k0_pay10 dy)) ∗ owns (c : Thread nD τ) arg9 fullShare (putCodes dy (i 0).val s0) ∗ owns (c : Thread nD τ) arg10 fullShare (putScale dy (i 0).val s1)) -∗ K ⟨⟩))
          ⊢ wp frame (wpE (defs₀ (F := F)) Variants.none c none) E (cc0_wgrad i arg1 harg1 arg2 harg2 arg3 harg3 arg4 harg4 arg5 harg5 arg6 harg6 arg7 harg7 arg8 harg8 arg9 harg9 arg10 harg10) K := by
    intro E K
    simp only [cc0_wgrad_eq_skeleton]; unfold cc0_wgrad_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_full _ _ _ _ _).trans ?_
      unfold run_quantise.sl.r run_quantise.sl.r_2
      simp only [load_whole, Memref.IsWhole.read_unread, View.writes_nil]
      rfl
    isplitl [H7]
    · iexists _; isplitr; swap; · iexact H7
      ipureintro
      refine (View.read_writes_full _ _ _ _ _).trans ?_
      unfold run_quantise.sl.r_1
      simp only [load_whole, Memref.IsWhole.read_unread, View.writes_nil]
    isplitl [HS0]
    · iexists _; isplitr; swap; · iexact HS0
      ipureintro
      refine ((View.read_writes_cons_put _ _ _ _ _ (k0_off1_eq i))).trans ?_
      unfold run_quantise.sl.r run_quantise.sl.r_2
      simp only [load_whole, Memref.IsWhole.read_unread, View.writes_nil]
      rfl
    iexists _; isplitr; swap; · iexact HS1
    ipureintro
    refine ((View.read_writes_cons_put _ _ _ _ _ (k0_off2_eq i))).trans ?_
    unfold run_quantise.sl.r_1
    simp only [load_whole, Memref.IsWhole.read_unread, View.writes_nil]
    rfl

set_option maxHeartbeats 1000000 in
/-- A point that quantises a block of `x` and multiplies. -/
theorem run_multiply (c : Dev nD) (i : grid0.Coords) (arg1 : Memref sig .tc .vmem S3072x256 .bf16) (harg1 : arg1.IsWhole) (arg2 : Memref sig .tc .vmem S3072x256 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S3072x256 .fp8e4m3) (harg5 : arg5.IsWhole) (arg6 : Memref sig .tc .vmem S1x1x256 .f32) (harg6 : arg6.IsWhole) (arg7 : Memref sig .tc .vmem S3072x256 .fp8e5m2) (harg7 : arg7.IsWhole) (arg8 : Memref sig .tc .vmem S1x1x256 .f32) (harg8 : arg8.IsWhole) (arg9 : Memref sig .tc .vmem S3072x2048 .fp8e5m2) (harg9 : arg9.IsWhole) (arg10 : Memref sig .tc .vmem S1x2048 .f32) (harg10 : arg10.IsWhole) (hc0 : ¬onDy i) (hc1 : onX i)
    (x : Vec F S3072x256 .bf16) (dy : Vec F S3072x256 .bf16) (mg : Vec F S256x2048 .f32) (o3 : Vec F S256x2048 .f32) (o4 : Vec F S3072x256 .fp8e4m3) (o5 : Vec F S1x1x256 .f32) (o6 : Vec F S3072x256 .fp8e5m2) (o7 : Vec F S1x1x256 .f32) (s0 : Vec F S3072x2048 .fp8e5m2) (s1 : Vec F S1x2048 .f32) :
      ∀ (E : Set ℕ) (K : PUnit → sProp 𝕄),
        iprop(owns (c : Thread nD τ) arg1 fullShare x ∗ owns (c : Thread nD τ) arg2 fullShare dy ∗ owns (c : Thread nD τ) arg3 fullShare mg ∗ owns (c : Thread nD τ) arg4 fullShare o3 ∗ owns (c : Thread nD τ) arg5 fullShare o4 ∗ owns (c : Thread nD τ) arg6 fullShare o5 ∗ owns (c : Thread nD τ) arg7 fullShare o6 ∗ owns (c : Thread nD τ) arg8 fullShare o7 ∗ owns (c : Thread nD τ) arg9 fullShare s0 ∗ owns (c : Thread nD τ) arg10 fullShare s1
            ∗ (iprop(owns (c : Thread nD τ) arg1 fullShare x ∗ owns (c : Thread nD τ) arg2 fullShare dy ∗ owns (c : Thread nD τ) arg3 fullShare mg ∗ owns (c : Thread nD τ) arg4 fullShare (outBlock x mg s0 s1) ∗ owns (c : Thread nD τ) arg5 fullShare (xCodes x) ∗ owns (c : Thread nD τ) arg6 fullShare (k0_pay6 (k0_pay14 x)) ∗ owns (c : Thread nD τ) arg7 fullShare o6 ∗ owns (c : Thread nD τ) arg8 fullShare o7 ∗ owns (c : Thread nD τ) arg9 fullShare s0 ∗ owns (c : Thread nD τ) arg10 fullShare s1) -∗ K ⟨⟩))
          ⊢ wp frame (wpE (defs₀ (F := F)) Variants.none c none) E (cc0_wgrad i arg1 harg1 arg2 harg2 arg3 harg3 arg4 harg4 arg5 harg5 arg6 harg6 arg7 harg7 arg8 harg8 arg9 harg9 arg10 harg10) K := by
    intro E K
    simp only [cc0_wgrad_eq_skeleton]; unfold cc0_wgrad_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (View.read_writes_full _ _ _ _ _).trans ?_
      unfold run_multiply.sl.r run_multiply.sl.r_1 run_multiply.sl.r_2
      simp only [load_whole, Memref.IsWhole.read_unread, View.writes_nil]
      rfl
    isplitl [H4]
    · iexists _; isplitr; swap; · iexact H4
      ipureintro
      refine (View.read_writes_full _ _ _ _ _).trans ?_
      unfold run_multiply.sl.r run_multiply.sl.r_2
      simp only [load_whole, Memref.IsWhole.read_unread, View.writes_nil]
      rfl
    isplitl [H5]
    · iexists _; isplitr; swap; · iexact H5
      ipureintro
      refine (View.read_writes_full _ _ _ _ _).trans ?_
      unfold run_multiply.sl.r_1
      simp only [load_whole, Memref.IsWhole.read_unread, View.writes_nil]
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _; isplitr; · ipureintro; exact harg10.read_unread _
    iexact HS1

end Cert.KernelIdeal.Run

end
-- ==== Proof.KernelRun.lean ====
/-
   The run of the kernel with what it leaves in every buffer named: what the scratch holds point by point (`Kept`), the
   pipeline's proof data (`dats`), the body obligation, the run and the frame.
-/
module

public import proofs.«01_k».proof.Proof.KernelBody
public import Idealize.ShloMosaic.Lib.Claim
public import Idealize.ShloMosaic.Lib.VecWindow
public import Idealize.ShloMosaic.Lib.Pointwise.Index
public import Idealize.ShloMosaic.Lib.Pipeline.Value

@[expose] public section

-- membership in a rectangle of production extents recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows hold -/

/-- The point of number `n`. -/
abbrev pt (n : Nat) (h : n < 26) : Fin cfg0.N := ⟨n, lt_of_lt_of_eq h (show (26 : Nat) = cfg0.N from N_0.symm)⟩

/-- The block of `x`, of `dy` and of the accumulator at a point. -/
abbrev xBlk (c : Dev nD) (t : Fin cfg0.N) : Vec F S3072x256 .bf16 := iblk m c 0 t
abbrev dyBlk (c : Dev nD) (t : Fin cfg0.N) : Vec F S3072x256 .bf16 := iblk m c 1 t
abbrev mgBlk (c : Dev nD) (t : Fin cfg0.N) : Vec F S256x2048 .f32 := iblk m c 2 t

/-- The last point at or before `t` that quantises a block of `dy`. -/
def lastDy (t : Fin cfg0.N) : Fin cfg0.N := pt (min t.val 7) (by omega)

theorem lastDy_of_lt (t : Fin cfg0.N) (h : t.val < 8) : lastDy t = t := Fin.ext (by show min t.val 7 = t.val; omega)

/-- All codes of `dy`: column `j` from the point that quantises its block. -/
def allCodes (c : Dev nD) : Vec F S3072x2048 .fp8e5m2 := fun y =>
  dyCodes (dyBlk m c (pt ((y (1 : Fin 2)).val / 256) (by have : (y (1 : Fin 2)).val < 2048 := (y 1).isLt; omega)))
    (ix2 (y (0 : Fin 2)) ⟨(y (1 : Fin 2)).val % 256, Nat.mod_lt _ (by decide)⟩)

/-- All scales of `dy`. -/
def allScales (c : Dev nD) : Vec F S1x2048 .f32 := fun y =>
  k0_pay10 (dyBlk m c (pt ((y (1 : Fin 2)).val / 256) (by have : (y (1 : Fin 2)).val < 2048 := (y 1).isLt; omega)))
    (ix2 (y (0 : Fin 2)) ⟨(y (1 : Fin 2)).val % 256, Nat.mod_lt _ (by decide)⟩)

/-- What the scratch holds before point `k`: the codes and scales of the blocks of `dy` quantised so far. -/
def Kept (c : Dev nD) (k : Nat) (s0 : Vec F S3072x2048 .fp8e5m2) (s1 : Vec F S1x2048 .f32) : Prop :=
  (∀ y, (y (1 : Fin 2)).val < 256 * k → s0 y = allCodes m c y) ∧ (∀ y, (y (1 : Fin 2)).val < 256 * k → s1 y = allScales m c y)

/-- Putting a block of 256 columns, read at a column before the block's end, given the columns before it. -/
theorem put_block {n : Nat} {A : Type} (s : (⟨2, ![n, 2048]⟩ : Shape).Idx → A) (k : Nat) (w : (⟨2, ![n, 256]⟩ : Shape).Idx → A)
    (y : (⟨2, ![n, 2048]⟩ : Shape).Idx) (h : (y (1 : Fin 2)).val < 256 * (k + 1)) :
    VecWindow.put s ![0, 256 * k] ![n, 256] w y
      = if 256 * k ≤ (y (1 : Fin 2)).val then w (ix2 (y (0 : Fin 2)) ⟨(y (1 : Fin 2)).val % 256, Nat.mod_lt _ (by decide)⟩) else s y := by
  unfold VecWindow.put
  by_cases hk : 256 * k ≤ (y (1 : Fin 2)).val
  · rw [if_pos hk, dif_pos (Fin.forall_fin_two.mpr ⟨⟨Nat.zero_le _, by
      show (y (0 : Fin 2)).val < 0 + n
      rw [Nat.zero_add]; exact (y (0 : Fin 2)).isLt⟩, hk, by show (y (1 : Fin 2)).val < 256 * k + 256; omega⟩)]
    refine congrArg w (funext fun a => ?_)
    match a with
    | ⟨0, _⟩ => exact Fin.ext (Nat.sub_zero _)
    | ⟨1, _⟩ => exact Fin.ext (show (y (1 : Fin 2)).val - 256 * k = (y (1 : Fin 2)).val % 256 by omega)
  · rw [if_neg hk, dif_neg fun hall => hk (hall (1 : Fin 2)).1]

/-- A point that quantises a block of `dy` keeps its codes and scales too. -/
theorem kept_put (c : Dev nD) (t : Fin cfg0.N) (ht : t.val < 8) {s0 : Vec F S3072x2048 .fp8e5m2} {s1 : Vec F S1x2048 .f32}
    (h : Kept m c t.val s0 s1) : Kept m c (t.val + 1) (putCodes (dyBlk m c t) t.val s0) (putScale (dyBlk m c t) t.val s1) := by
  have hp : ∀ (j : Nat) (hj : j / 256 < 26), 256 * t.val ≤ j → j < 256 * (t.val + 1) → pt (j / 256) hj = t := fun j hj h1 h2 =>
    Fin.ext (show j / 256 = t.val by omega)
  constructor
  · intro y hy
    unfold putCodes
    refine (put_block s0 t.val _ y hy).trans ?_
    split
    · rename_i hk
      unfold allCodes k0_pay3 dyCodes
      rw [hp _ _ hk hy, shapeCast_self]
    · exact h.1 y (by omega)
  · intro y hy
    unfold putScale
    refine (put_block s1 t.val _ y hy).trans ?_
    split
    · rename_i hk
      unfold allScales k0_pay4
      rw [hp _ _ hk hy, shapeCast_self]
    · exact h.2 y (by omega)

/-- From the ninth point on the scratch holds everything. -/
theorem kept_all (c : Dev nD) (k : Nat) (hk : 8 ≤ k) {s0 : Vec F S3072x2048 .fp8e5m2} {s1 : Vec F S1x2048 .f32}
    (h : Kept m c k s0 s1) : s0 = allCodes m c ∧ s1 = allScales m c :=
  ⟨funext fun y => h.1 y (by have : (y (1 : Fin 2)).val < 2048 := (y 1).isLt; omega),
    funext fun y => h.2 y (by have : (y (1 : Fin 2)).val < 2048 := (y 1).isLt; omega)⟩

/-- And does so at every later point. -/
theorem kept_of_all (c : Dev nD) (k : Nat) : Kept m c k (allCodes m c) (allScales m c) := ⟨fun _ _ => rfl, fun _ _ => rfl⟩

/-- The block of the accumulated product at a point. -/
def outAt (c : Dev nD) (t : Fin cfg0.N) : Vec F S256x2048 .f32 :=
  outBlock (xBlk m c t) (mgBlk m c t) (allCodes m c) (allScales m c)

/-! ## The pipeline's proof data -/

/-- The two scratch buffers. -/
abbrev scM0 : Memref sig .tc .vmem S3072x2048 .fp8e5m2 := Memref.whole cc0_scratch0
abbrev scM1 : Memref sig .tc .vmem S1x2048 .f32 := Memref.whole cc0_scratch1

/-- The launch's invariant with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What holds before point `k` beside the windows. -/
def inv (c : Dev nD) (k : Nat) : sProp 𝕄 :=
  iprop((∃ s0 s1, ⌜Kept m c k s0 s1⌝ ∗ owns (c : Thread nD τ) scM0 fullShare s0 ∗ owns (c : Thread nD τ) scM1 fullShare s1) ∗ (∃ r, prngReg c r))

/-- The proof data of the pipeline on core `c`: the arrays as the region finds them; after a point each input's buffer at
    its block, the outputs of the points on `x` at the values stored there, the outputs of the points on `dy` at the
    values the last such point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => xCodes (xBlk m c t)
    | ⟨5, _⟩ => k0_pay6 (k0_pay14 (xBlk m c t))
    | ⟨6, _⟩ => dyCodes (dyBlk m c (lastDy t))
    | ⟨7, _⟩ => k0_pay2 (k0_pay10 (dyBlk m c (lastDy t)))
  Φ t := inv m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem after_4 (c : Dev nD) (t : Fin cfg0.N) : (dats m 0 c).after 4 t = xCodes (xBlk m c t) := by dsimp only [dats]
theorem after_5 (c : Dev nD) (t : Fin cfg0.N) : (dats m 0 c).after 5 t = k0_pay6 (k0_pay14 (xBlk m c t)) := by dsimp only [dats]
theorem after_6 (c : Dev nD) (t : Fin cfg0.N) : (dats m 0 c).after 6 t = dyCodes (dyBlk m c (lastDy t)) := by dsimp only [dats]
theorem after_7 (c : Dev nD) (t : Fin cfg0.N) : (dats m 0 c).after 7 t = k0_pay2 (k0_pay10 (dyBlk m c (lastDy t))) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where the windows are idle, and where they are written back -/

theorem live_in (w : Fin cfg0.W) (hw : w.val < 3) (t : Fin cfg0.N) : cfg0.idle w (grid0.coords t) = false := by
  match w, hw with
  | ⟨0, _⟩, _ => rfl
  | ⟨1, _⟩, _ => rfl
  | ⟨2, _⟩, _ => rfl

/-- The outputs of the points on `x` are idle before, and not written back there. -/
theorem idle_x : ∀ t : Fin cfg0.N, t.val < 8 → (cfg0.idle 3 (grid0.coords t) = true ∧ cfg0.idle 4 (grid0.coords t) = true ∧ cfg0.idle 5 (grid0.coords t) = true) :=
  (by decide +kernel : ∀ t : Fin grid0.N, t.val < 8 → (cfg0.idle 3 (grid0.coords t) = true ∧ cfg0.idle 4 (grid0.coords t) = true ∧ cfg0.idle 5 (grid0.coords t) = true))
theorem noflush_x : ∀ t : Fin cfg0.N, t.val < 8 → ((cfg0.win 3).flush t = false ∧ (cfg0.win 4).flush t = false ∧ (cfg0.win 5).flush t = false) :=
  (by decide +kernel : ∀ t : Fin grid0.N, t.val < 8 → ((cfg0.win 3).flush t = false ∧ (cfg0.win 4).flush t = false ∧ (cfg0.win 5).flush t = false))
theorem live_x : ∀ t : Fin cfg0.N, 8 ≤ t.val → (cfg0.idle 3 (grid0.coords t) = false ∧ cfg0.idle 4 (grid0.coords t) = false ∧ cfg0.idle 5 (grid0.coords t) = false) :=
  (by decide +kernel : ∀ t : Fin grid0.N, 8 ≤ t.val → (cfg0.idle 3 (grid0.coords t) = false ∧ cfg0.idle 4 (grid0.coords t) = false ∧ cfg0.idle 5 (grid0.coords t) = false))
/-- The outputs of the points on `dy` are idle after, and written back there at the very last point only. -/
theorem live_dy : ∀ t : Fin cfg0.N, t.val < 8 → (cfg0.idle 6 (grid0.coords t) = false ∧ cfg0.idle 7 (grid0.coords t) = false) :=
  (by decide +kernel : ∀ t : Fin grid0.N, t.val < 8 → (cfg0.idle 6 (grid0.coords t) = false ∧ cfg0.idle 7 (grid0.coords t) = false))
theorem idle_dy : ∀ t : Fin cfg0.N, 8 ≤ t.val → (cfg0.idle 6 (grid0.coords t) = true ∧ cfg0.idle 7 (grid0.coords t) = true) :=
  (by decide +kernel : ∀ t : Fin grid0.N, 8 ≤ t.val → (cfg0.idle 6 (grid0.coords t) = true ∧ cfg0.idle 7 (grid0.coords t) = true))
theorem noflush_dy : ∀ t : Fin cfg0.N, 7 ≤ t.val → t.val < 25 → ((cfg0.win 6).flush t = false ∧ (cfg0.win 7).flush t = false) :=
  (by decide +kernel : ∀ t : Fin grid0.N, 7 ≤ t.val → t.val < 25 → ((cfg0.win 6).flush t = false ∧ (cfg0.win 7).flush t = false))
theorem flush_dy : ∀ t : Fin cfg0.N, 25 ≤ t.val → ((cfg0.win 6).flush t = true ∧ (cfg0.win 7).flush t = true) :=
  (by decide +kernel : ∀ t : Fin grid0.N, 25 ≤ t.val → ((cfg0.win 6).flush t = true ∧ (cfg0.win 7).flush t = true))

/-- What an output holds before the point after `t` is what `t` left, when `t` does not write it back. -/
theorem before_next (c : Dev nD) (w : Fin cfg0.W) (t t' : Fin cfg0.N) (h : t'.val = t.val + 1) (hfe : (cfg0.win w).fetch t' = false)
    (hfl : (cfg0.win w).flush t = false) (d) : (dats m 0 c).before w t' d = (dats m 0 c).left w t d := by
  have ht : (⟨t'.val - 1, Nat.lt_of_le_of_lt (Nat.sub_le _ 1) t'.isLt⟩ : Fin cfg0.N) = t := Fin.ext (by show t'.val - 1 = t.val; omega)
  rw [(dats m 0 c).before_of_pos w t' (by omega) hfe, ht, hfl]
  exact if_neg (by decide)

theorem left_live (c : Dev nD) (w : Fin cfg0.W) (t : Fin cfg0.N) (h : cfg0.idle w (grid0.coords t) = false) (d) :
    (dats m 0 c).left w t d = (dats m 0 c).kept w t d := by
  unfold Dat.left; rw [show cfg0.idle w (cfg0.grid.coords t) = false from h]

theorem left_idle (c : Dev nD) (w : Fin cfg0.W) (t : Fin cfg0.N) (h : cfg0.idle w (grid0.coords t) = true) (d) :
    (dats m 0 c).left w t d = (dats m 0 c).before w t d := by
  unfold Dat.left; rw [show cfg0.idle w (cfg0.grid.coords t) = true from h]

/-- From the ninth point on the outputs of the points on `dy` hold what the eighth stored. -/
theorem before_dy (c : Dev nD) (n : Nat) (h7 : 8 ≤ n) (hn : n < 26) (d6 d7) :
    (dats m 0 c).before 6 (pt n hn) d6 = (dats m 0 c).after 6 (pt n hn) ∧ (dats m 0 c).before 7 (pt n hn) d7 = (dats m 0 c).after 7 (pt n hn) := by
  induction n, h7 using Nat.le_induction with
  | base =>
    have hf := noflush_dy (pt 7 (by decide)) (le_refl 7) (show 7 < 25 by decide)
    have hl := live_dy (pt 7 (by decide)) (show 7 < 8 by decide)
    constructor
    · rw [before_next m c 6 (pt 7 (by decide)) _ rfl rfl hf.1, left_live m c _ _ hl.1, after_6]
      exact after_6 m c (pt 7 (by decide))
    · rw [before_next m c 7 (pt 7 (by decide)) _ rfl rfl hf.2, left_live m c _ _ hl.2, after_7]
      exact after_7 m c (pt 7 (by decide))
  | succ n h7 ih =>
    have hl : lastDy (pt (n + 1) hn) = lastDy (pt n (by omega)) := Fin.ext (show min (n + 1) 7 = min n 7 by omega)
    have ih := ih (by omega)
    have hf := noflush_dy (pt n (by omega)) (show 7 ≤ n by omega) (show n < 25 by omega)
    have hi := idle_dy (pt n (by omega)) h7
    constructor
    · rw [before_next m c 6 (pt n (by omega)) _ rfl rfl hf.1, left_idle m c _ _ hi.1, after_6, hl, ← after_6]
      exact ih.1
    · rw [before_next m c 7 (pt n (by omega)) _ rfl rfl hf.2, left_idle m c _ _ hi.2, after_7, hl, ← after_7]
      exact ih.2

/-- A window live at a point ends it at its named contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- An output of the points on `dy`, left alone at a later point, is what the obligation asks. -/
theorem leaves_dy (c : Dev nD) (w : Fin cfg0.W) (hw : w = 6 ∨ w = 7) (t : Fin cfg0.N) (ht : 8 ≤ t.val) (d) :
    owns (c : Thread nD τ) ((cfg0.win w).stage (cfg0.slots t w)) fullShare ((dats m 0 c).before w t d) ⊢ (dats m 0 c).leavesExact w t := by
  have hN : t.val < 26 := lt_of_lt_of_eq t.isLt (show cfg0.N = 26 from N_0)
  have hidle : cfg0.idle w (grid0.coords t) = true := by
    rcases hw with rfl | rfl
    · exact (idle_dy t ht).1
    · exact (idle_dy t ht).2
  by_cases h25 : t.val < 25
  · have hfl : (cfg0.win w).flush t = false := by
      rcases hw with rfl | rfl
      · exact (noflush_dy t (by omega) h25).1
      · exact (noflush_dy t (by omega) h25).2
    rw [(dats m 0 c).leavesExact_idle w t hidle hfl]
    iintro H
    iexists _; iexact H
  · have hfl : (cfg0.win w).flush t = true := by
      rcases hw with rfl | rfl
      · exact (flush_dy t (by omega)).1
      · exact (flush_dy t (by omega)).2
    have hb : (dats m 0 c).before w t d = (dats m 0 c).after w t := by
      rcases hw with rfl | rfl
      · exact (before_dy m c t.val ht hN d ((dats m 0 c).after 7 t)).1
      · exact (before_dy m c t.val ht hN ((dats m 0 c).after 6 t) d).2
    unfold Dat.leavesExact; rw [hidle, hfl, hb]

/-! ## The body obligation -/

/-- Each window's current staging memref at a point, as the pipeline passes it. -/
abbrev ms (w : Fin cfg0.W) (t : Fin cfg0.N) := (cfg0.win w).stage (cfg0.slots t w)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The grid's one coordinate is the point's number. -/
theorem coord_val : ∀ t : Fin cfg0.N, (grid0.coords t 0).val = t.val :=
  (by decide +kernel : ∀ t : Fin grid0.N, (grid0.coords t 0).val = t.val)

set_option maxHeartbeats 1600000 in
/-- The body at any point: the inputs hold their blocks, the point's number says which of the two runs applies, and the
    scratch goes from what it holds before the point to what it holds after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = inv m c (t.val + 1) from rfl, show (dats m 0 c).Φ t.castSucc = inv m c t.val from rfl,
    show (dats m 0 c).owesAt () t.succ = (dats m 0 c).owesAt () t.castSucc from rfl]
  rw [leaves_live m c 0 t (live_in 0 (by decide) t), leaves_live m c 1 t (live_in 1 (by decide) t),
    leaves_live m c 2 t (live_in 2 (by decide) t), after_0, after_1, after_2]
  unfold inv
  by_cases h0 : t.val < 8
  · rw [(dats m 0 c).leavesExact_idle 3 t (idle_x t h0).1 (noflush_x t h0).1, (dats m 0 c).leavesExact_idle 4 t (idle_x t h0).2.1 (noflush_x t h0).2.1,
      (dats m 0 c).leavesExact_idle 5 t (idle_x t h0).2.2 (noflush_x t h0).2.2,
      leaves_live m c 6 t (live_dy t h0).1, leaves_live m c 7 t (live_dy t h0).2, after_6, after_7, lastDy_of_lt t h0]
    iintro ⟨⟨⟨%s0, %s1, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_quantise c (grid0.coords t) _ _ _ _ _ _ _ _ _ _ _ _ _ _ _ _ _ _ _ _ ((onDy_iff t).mpr h0) (fun h => absurd ((onX_iff t).mp h) (by omega))
      (iblk m c 0 t) (iblk m c 1 t) (iblk m c 2 t) _ _ _ _ _ s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _, _
        isplitr; swap
        · isplitl [HS0]
          · iexact HS0
          iexact HS1
        ipureintro
        rw [coord_val]
        exact kept_put m c t h0 hk
      iexact Hg
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iexact H7
  · have h8 : 8 ≤ t.val := by omega
    rw [leaves_live m c 3 t (live_x t h8).1, leaves_live m c 4 t (live_x t h8).2.1, leaves_live m c 5 t (live_x t h8).2.2, after_3, after_4, after_5]
    iintro ⟨⟨⟨%s0, %s1, %hk, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain ⟨rfl, rfl⟩ := kept_all m c t.val h8 hk
    iapply ((run_multiply c (grid0.coords t) _ _ _ _ _ _ _ _ _ _ _ _ _ _ _ _ _ _ _ _ (fun h => h0 ((onDy_iff t).mp h)) ((onX_iff t).mpr h8)
      (iblk m c 0 t) (iblk m c 1 t) (iblk m c 2 t) _ _ _ _ _ (allCodes m c) (allScales m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _, _
        isplitr; swap
        · isplitl [HS0]
          · iexact HS0
          iexact HS1
        ipureintro
        exact kept_of_all m c _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_dy m c 6 (.inl rfl) t h8 d6); iexact H6
    iapply (leaves_dy m c 7 (.inr rfl) t h8 d7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
set_option maxHeartbeats 800000 in
/-- The run: every window's array ends at the proof data's final contents, every other buffer at what the host lines
    after the region leave, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      show Pipeline.ΦA spec0 c ⊢ inv m c 0
      rw [PhiA_eq]; unfold inv
      iintro ⟨⟨⟨%s0, HS0⟩, ⟨%s1, HS1⟩⟩, Hg⟩
      isplitl [HS0 HS1]
      · iexists _, _
        isplitr; swap
        · isplitl [HS0]
          · iexact HS0
          iexact HS1
        ipureintro
        exact ⟨fun y h => absurd h (by omega), fun y h => absurd h (by omega)⟩
      iexact Hg)
    (hout := fun c => by
      show inv m c 26 ⊢ Pipeline.ΦA spec0 c
      rw [PhiA_eq]; unfold inv
      iintro ⟨⟨%s0, %s1, %hk, HS0, HS1⟩, Hg⟩
      isplitl [HS0 HS1]
      · isplitl [HS0]
        · iexists _; iexact HS0
        iexists _; iexact HS1
      iexact Hg)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the kernel runs, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Exponent.lean ====
/-
   The power of two a column is scaled by, in the two ways the programs find it, over extended reals: the kernel counts the
   single-precision powers of two that are at most `y` and assembles the power from its exponent field; the reference takes
   the floor of the base-2 logarithm. `scale_eq` and `inverse_eq` say they agree wherever `y` is a product the kernel can
   meet: infinite, or a real from zero up to the largest finite bf16 value over the format's largest.
-/
module

public import Idealize.ShloMosaic.PureOps.Ideal.Laws
public import Idealize.ShloMosaic.Lib.Pointwise
public import Mathlib.Analysis.SpecialFunctions.Log.Basic

@[expose] public section

noncomputable section

namespace Cert.Quantise

open Idealize.ShloMosaic

/-! ## The two readings -/

/-- The single-precision number whose exponent field is the word `w` and whose other bits are zero. -/
def ofField (w : BitVec 32) : EReal := Ideal.ofBits .f32 (IntOp.shli .vector w 23#32)

/-- The largest exponent field of a power of two at most `y`, zero if there is none. -/
def field (y : EReal) : BitVec 32 :=
  Finset.univ.fold IntOp.maxsi 2147483648#32 fun k : Fin 256 => if ofField (BitVec.ofNat 32 k.val) ≤ y then BitVec.ofNat 32 k.val else 0#32

/-- The kernel's exponent for a column of largest magnitude `a`, `y` being `a` over the format's largest. -/
def kernelExp (a y : EReal) : BitVec 32 :=
  Scalar.select
    (IntOp.ori (IntOp.ori (IntOp.cmpi .eq (field y) 0#32) (IntOp.cmpi .eq (field y) 255#32)) (BitVec.ofBool (decide (a = 0))))
    0#32 (IntOp.subi (field y) 126#32)

/-- The kernel's scale, and what it multiplies the column by. -/
def kernelScale (e : BitVec 32) : EReal := ofField (IntOp.addi e 127#32)
def kernelInverse (e : BitVec 32) : EReal := ofField (IntOp.addi (IntOp.subi 0#32 e) 127#32)

/-- The reference's exponent. -/
def refExp (y : EReal) : EReal :=
  Scalar.select
    (IntOp.ori
      (BitVec.ofBool (decide ((if y < Ideal.ofBits .f32 0x00800000#32 then 0 else y) = 0)))
      (BitVec.ofBool (decide ((if y < Ideal.ofBits .f32 0x00800000#32 then 0 else y) = Ideal.ofBits .f32 0x7F800000#32))))
    0
    (Ideal.liftRound Int.floor (Ideal.div (Ideal.log (if y < Ideal.ofBits .f32 0x00800000#32 then 0 else y))
      (Ideal.log (Ideal.ofBits .f32 0x40000000#32))) + 1)

/-! ## The powers of two by exponent field -/

theorem field_bits : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The number of a word whose sign and significand bits are zero, by its exponent field. -/
theorem ieee_of_fields (w : BitVec 32) (k : Nat) (h1 : (w.extractLsb' 31 1 == 1#1) = false) (h2 : (w.extractLsb' 23 8).toNat = k)
    (h3 : (w.extractLsb' 0 23).toNat = 0) : Ideal.ieee 8 23 w
    = if k = 255 then ⊤ else if k = 0 then 0 else (((2 : ℝ) ^ ((k : ℤ) - 127) : ℝ) : EReal) := by
  unfold Ideal.ieee
  simp only [h1, h2, h3, Nat.reduceAdd, Nat.reducePow, Nat.reduceSub, if_true, Bool.false_eq_true, if_false]
  by_cases h255 : k = 255
  · rw [if_pos h255, if_pos h255]
  by_cases h0 : k = 0
  · rw [if_neg h255, if_neg h255, if_pos h0, if_pos h0]
    simp
  rw [if_neg h255, if_neg h255, if_neg h0, if_neg h0]
  have : (2 : ℝ) ^ ((k : ℤ) - 127) = (8388608 : ℝ) * (2 : ℝ) ^ ((k : ℤ) - (2 ^ 7 - 1) - 23) := by
    rw [show (8388608 : ℝ) = (2 : ℝ) ^ (23 : ℤ) by norm_num, ← zpow_add₀ (by norm_num)]
    congr 1
    push_cast
    ring
  rw [this]
  push_cast
  norm_num

theorem ofField_eq (k : Nat) (hk : k < 256) : ofField (BitVec.ofNat 32 k)
    = if k = 255 then ⊤ else if k = 0 then 0 else (((2 : ℝ) ^ ((k : ℤ) - 127) : ℝ) : EReal) :=
  have h := field_bits ⟨k, hk⟩
  ieee_of_fields (IntOp.shli .vector (BitVec.ofNat 32 k) 23#32) k h.1 h.2.1 h.2.2

theorem ofField_normal (k : Nat) (h1 : 1 ≤ k) (h2 : k ≤ 254) :
    ofField (BitVec.ofNat 32 k) = (((2 : ℝ) ^ ((k : ℤ) - 127) : ℝ) : EReal) := by
  rw [ofField_eq k (by omega), if_neg (by omega), if_neg (by omega)]

/-- The maximum over the fields, once the powers at most `y` are known to be those of the fields up to `n`. -/
theorem fold_fields : ∀ n : Fin 256, (Finset.univ.fold IntOp.maxsi 2147483648#32
    fun k : Fin 256 => if k.val ≤ n.val then BitVec.ofNat 32 k.val else 0#32) = BitVec.ofNat 32 n.val := by
  decide +kernel

theorem field_of (y : EReal) (n : Nat) (hn : n < 256) (h : ∀ k : Nat, k < 256 → (ofField (BitVec.ofNat 32 k) ≤ y ↔ k ≤ n)) :
    field y = BitVec.ofNat 32 n := by
  refine Eq.trans ?_ (fold_fields ⟨n, hn⟩)
  unfold field
  refine congrArg (fun f => Finset.fold IntOp.maxsi 2147483648#32 f Finset.univ) (funext fun k => ?_)
  dsimp only
  exact if_congr (h k.val k.isLt) rfl rfl

theorem field_top : field ⊤ = 255#32 :=
  field_of ⊤ 255 (by omega) fun k hk => ⟨fun _ => by omega, fun _ => le_top⟩

theorem field_small (r : ℝ) (h0 : 0 ≤ r) (h : r < (2 : ℝ) ^ (-126 : ℤ)) : field (r : EReal) = 0#32 := by
  refine field_of _ 0 (by omega) fun k hk => ?_
  rw [ofField_eq k hk]
  by_cases h255 : k = 255
  · simp [h255]
  by_cases hk0 : k = 0
  · simp [hk0, h0]
  rw [if_neg h255, if_neg hk0, EReal.coe_le_coe_iff]
  refine ⟨fun hle => absurd (lt_of_le_of_lt hle h) (not_lt.mpr (zpow_le_zpow_right₀ (by norm_num) (by omega))), fun hle => absurd hle (by omega)⟩

theorem field_normal (r : ℝ) (n : Nat) (hn1 : 1 ≤ n) (hn2 : n ≤ 253) (hle : (2 : ℝ) ^ ((n : ℤ) - 127) ≤ r) (hlt : r < (2 : ℝ) ^ ((n : ℤ) - 126)) :
    field (r : EReal) = BitVec.ofNat 32 n := by
  have h0 : 0 ≤ r := le_trans (zpow_nonneg (by norm_num) _) hle
  refine field_of _ n (by omega) fun k hk => ?_
  rw [ofField_eq k hk]
  by_cases h255 : k = 255
  · simp [h255]; omega
  by_cases hk0 : k = 0
  · simp [hk0, h0]
  rw [if_neg h255, if_neg hk0, EReal.coe_le_coe_iff]
  constructor
  · intro h
    have := (zpow_lt_zpow_iff_right₀ (by norm_num : (1 : ℝ) < 2)).mp (lt_of_le_of_lt h hlt)
    omega
  · intro h
    exact le_trans (zpow_le_zpow_right₀ (by norm_num) (by omega)) hle

/-! ## The kernel's scale -/

theorem kernelExp_zero (a y : EReal) (h : field y = 0#32 ∨ field y = 255#32) : kernelExp a y = 0#32 := by
  unfold kernelExp
  rw [Scalar.select_of_eq_one]
  rcases h with h | h <;> rw [h] <;> cases decide (a = 0) <;> rfl

theorem kernelExp_normal : ∀ n : Fin 256, 1 ≤ n.val → n.val ≤ 252 →
    IntOp.ori (IntOp.ori (IntOp.cmpi .eq (BitVec.ofNat 32 n.val) 0#32) (IntOp.cmpi .eq (BitVec.ofNat 32 n.val) 255#32)) (BitVec.ofBool false) = 0
    ∧ IntOp.addi (IntOp.subi (BitVec.ofNat 32 n.val) 126#32) 127#32 = BitVec.ofNat 32 (n.val + 1)
    ∧ IntOp.addi (IntOp.subi 0#32 (IntOp.subi (BitVec.ofNat 32 n.val) 126#32)) 127#32 = BitVec.ofNat 32 (253 - n.val) := by
  decide +kernel

theorem kernel_of_zero : kernelScale 0#32 = 1 ∧ kernelInverse 0#32 = 1 := by
  have h : ofField (BitVec.ofNat 32 127) = 1 := by
    rw [ofField_normal 127 (by omega) (by omega)]; norm_num
  exact ⟨h, h⟩

/-! ## The reference's exponent -/

theorem tiny_eq : Ideal.ofBits .f32 0x00800000#32 = (((2 : ℝ) ^ (-126 : ℤ) : ℝ) : EReal) := by
  refine (ieee_of_fields 0x00800000#32 1 (by decide) (by decide) (by decide)).trans ?_
  rw [if_neg (by decide), if_neg (by decide)]
  norm_num

theorem inf_eq : Ideal.ofBits .f32 0x7F800000#32 = ⊤ := by
  simp [Ideal.ofBits, Ideal.ieee]

theorem two_eq : Ideal.ofBits .f32 0x40000000#32 = ((2 : ℝ) : EReal) := by
  simp [Ideal.ofBits, Ideal.ieee, -EReal.coe_mul]; norm_num

/-- The floor of the base-2 logarithm, and the powers of two around a real. -/
def lg (r : ℝ) : ℤ := ⌊Real.log r / Real.log 2⌋

theorem lg_le (r : ℝ) (hr : 0 < r) : (2 : ℝ) ^ lg r ≤ r := by
  have hl : 0 < Real.log 2 := Real.log_pos (by norm_num)
  rw [← Real.log_le_log_iff (zpow_pos (by norm_num) _) hr, Real.log_zpow, ← le_div_iff₀ hl]
  exact Int.floor_le _

theorem lt_lg (r : ℝ) (hr : 0 < r) : r < (2 : ℝ) ^ (lg r + 1) := by
  have hl : 0 < Real.log 2 := Real.log_pos (by norm_num)
  rw [← Real.log_lt_log_iff hr (zpow_pos (by norm_num) _), Real.log_zpow, ← div_lt_iff₀ hl]
  push_cast
  exact Int.lt_floor_add_one _

theorem ori_true : ∀ w : BitVec 1, IntOp.ori (BitVec.ofBool true) w = 1 := by decide

theorem refExp_top : refExp ⊤ = 0 := by
  unfold refExp
  rw [if_neg (by simp), inf_eq, Scalar.select_of_eq_one]
  simp
  rfl

theorem refExp_small (r : ℝ) (h : r < (2 : ℝ) ^ (-126 : ℤ)) : refExp (r : EReal) = 0 := by
  unfold refExp
  rw [tiny_eq, if_pos (EReal.coe_lt_coe_iff.mpr h), Scalar.select_of_eq_one]
  rw [decide_eq_true (rfl : (0 : EReal) = 0)]
  exact ori_true _

theorem refExp_normal (r : ℝ) (h : (2 : ℝ) ^ (-126 : ℤ) ≤ r) : refExp (r : EReal) = (((lg r : ℤ) + 1 : ℝ) : EReal) := by
  have hr : 0 < r := lt_of_lt_of_le (zpow_pos (by norm_num) _) h
  unfold refExp
  rw [tiny_eq, if_neg (not_lt.mpr (EReal.coe_le_coe_iff.mpr h)), inf_eq, two_eq, Scalar.select_of_eq_zero]
  · rw [Ideal.log_coe, if_neg (not_le.mpr hr), Ideal.log_coe, if_neg (by norm_num)]
    have hl : (Real.log 2 : ℝ) ≠ 0 := ne_of_gt (Real.log_pos (by norm_num))
    unfold Ideal.div
    rw [if_neg (by exact_mod_cast hl), ← EReal.coe_inv, ← EReal.coe_mul, ← div_eq_mul_inv, Ideal.liftRound_coe]
    show (((⌊Real.log r / Real.log 2⌋ : ℤ) : ℝ) : EReal) + 1 = _
    unfold lg
    norm_cast
  · have h1 : decide ((r : EReal) = 0) = false := decide_eq_false (by exact_mod_cast ne_of_gt hr)
    have h2 : decide ((r : EReal) = ⊤) = false := decide_eq_false (EReal.coe_ne_top r)
    rw [h1, h2]
    rfl

theorem exp2_int (z : ℤ) : Ideal.exp2 (((z : ℝ)) : EReal) = (((2 : ℝ) ^ z : ℝ) : EReal) := by
  rw [Ideal.exp2_coe]
  exact congrArg _ (Real.rpow_intCast 2 z)

theorem exp2_zero : Ideal.exp2 0 = 1 := by
  have := exp2_int 0
  simpa using this

/-! ## They agree -/

/-- The scale and the inverse of the two readings are one, for `y` infinite or a real from zero to below `2 ^ 126`. -/
theorem agree (a y : EReal) (h : y = ⊤ ∨ ∃ r : ℝ, y = (r : EReal) ∧ 0 ≤ r ∧ r < (2 : ℝ) ^ (126 : ℤ)) (ha : a = 0 → y = 0) :
    kernelScale (kernelExp a y) = Ideal.exp2 (refExp y) ∧ kernelInverse (kernelExp a y) = Ideal.exp2 (0 - refExp y) := by
  rcases h with rfl | ⟨r, rfl, h0, hlt⟩
  · rw [kernelExp_zero a ⊤ (.inr field_top), refExp_top, sub_zero, exp2_zero]
    exact kernel_of_zero
  by_cases hs : r < (2 : ℝ) ^ (-126 : ℤ)
  · rw [kernelExp_zero a _ (.inl (field_small r h0 hs)), refExp_small r hs, sub_zero, exp2_zero]
    exact kernel_of_zero
  have hge := not_lt.mp hs
  have hr : 0 < r := lt_of_lt_of_le (zpow_pos (by norm_num) _) hge
  have hlow : (2 : ℝ) ^ (lg r) ≤ r := lg_le r hr
  have hhigh : r < (2 : ℝ) ^ (lg r + 1) := lt_lg r hr
  have hL1 : -126 ≤ lg r := by
    have := (zpow_lt_zpow_iff_right₀ (by norm_num : (1 : ℝ) < 2)).mp (lt_of_le_of_lt hge hhigh)
    omega
  have hL2 : lg r < 126 := (zpow_lt_zpow_iff_right₀ (by norm_num : (1 : ℝ) < 2)).mp (lt_of_le_of_lt hlow hlt)
  obtain ⟨n, hn⟩ : ∃ n : Nat, (n : ℤ) = lg r + 127 := ⟨(lg r + 127).toNat, Int.toNat_of_nonneg (by omega)⟩
  have hfield : field (r : EReal) = BitVec.ofNat 32 n :=
    field_normal r n (by omega) (by omega) (by rw [hn]; convert hlow using 2; ring) (by rw [hn]; convert hhigh using 2; ring)
  have ha0 : decide (a = 0) = false := decide_eq_false fun h => by
    have := ha h
    exact absurd (by exact_mod_cast this : r = 0) (ne_of_gt hr)
  obtain ⟨e1, e2, e3⟩ := kernelExp_normal ⟨n, by omega⟩ (by show 1 ≤ n; omega) (by show n ≤ 252; omega)
  have hexp : kernelExp a (r : EReal) = IntOp.subi (BitVec.ofNat 32 n) 126#32 := by
    unfold kernelExp
    rw [hfield, ha0, Scalar.select_of_eq_zero e1]
  rw [hexp, refExp_normal r hge]
  constructor
  · unfold kernelScale
    rw [e2, ofField_normal (n + 1) (by omega) (by omega), show ((lg r : ℝ) + 1) = ((lg r + 1 : ℤ) : ℝ) by push_cast; ring, exp2_int]
    congr 2
    push_cast
    omega
  · unfold kernelInverse
    rw [e3, ofField_normal (253 - n) (by omega) (by omega)]
    have hneg : (0 : EReal) - (((lg r : ℝ) + 1 : ℝ) : EReal) = ((-((lg r : ℝ) + 1) : ℝ) : EReal) := by
      rw [zero_sub, EReal.coe_neg]
    rw [hneg]
    rw [show ((-((lg r : ℝ) + 1) : ℝ)) = ((-(lg r + 1) : ℤ) : ℝ) by push_cast; ring, exp2_int]
    congr 2
    omega

end Cert.Quantise

end
-- ==== Proof.Column.lean ====
/-
   A column's largest magnitude and the constants of the two formats, as extended reals.
-/
module

public import proofs.«01_k».proof.Proof.Exponent

@[expose] public section

noncomputable section

namespace Cert.Quantise

open Idealize.ShloMosaic

/-- The largest magnitude of a column. -/
def colMax (v : Fin 3072 → EReal) : EReal := Finset.univ.fold max ⊥ fun r => max (v r) (-(v r))

theorem neg_inf_16 : Ideal.ofBits .bf16 0xFF80#16 = ⊥ := by simp [Ideal.ofBits, Ideal.ieee]
theorem neg_inf_32 : Ideal.ofBits .f32 0xFF800000#32 = ⊥ := by simp [Ideal.ofBits, Ideal.ieee]
theorem zero_32 : Ideal.ofBits .f32 0x00000000#32 = 0 := by simp [Ideal.ofBits, Ideal.ieee]
theorem one_32 : Ideal.ofBits .f32 0x3F800000#32 = 1 := by
  rw [← EReal.coe_one]; simp [Ideal.ofBits, Ideal.ieee, -EReal.coe_mul, -EReal.coe_one]; norm_num

/-- The largest numbers of the two formats. -/
def xMax : EReal := Ideal.ofBits .f32 0x43E00000#32
def dyMax : EReal := Ideal.ofBits .f32 0x47600000#32

/-- One over them, rounded. -/
def xInv : EReal := Ideal.ofBits .f32 0x3B124925#32
def dyInv : EReal := Ideal.ofBits .f32 0x37924925#32

theorem xMax_eq : xMax = ((448 : ℝ) : EReal) := by
  unfold xMax; simp [Ideal.ofBits, Ideal.ieee, -EReal.coe_mul]; norm_num
theorem dyMax_eq : dyMax = ((57344 : ℝ) : EReal) := by
  unfold dyMax; simp [Ideal.ofBits, Ideal.ieee, -EReal.coe_mul]; norm_num
theorem xInv_eq : xInv = ((9586981 / 2 ^ 32 : ℝ) : EReal) := by
  unfold xInv; simp [Ideal.ofBits, Ideal.ieee, -EReal.coe_mul]; norm_num
theorem dyInv_eq : dyInv = ((9586981 / 2 ^ 39 : ℝ) : EReal) := by
  unfold dyInv; simp [Ideal.ofBits, Ideal.ieee, -EReal.coe_mul]; norm_num

theorem x_16 : Ideal.ofBits .bf16 0x43E0#16 = xMax := by
  rw [xMax_eq]; simp [Ideal.ofBits, Ideal.ieee, -EReal.coe_mul]; norm_num
theorem neg_x_16 : Ideal.ofBits .bf16 0xC3E0#16 = -xMax := by
  rw [xMax_eq, ← EReal.coe_neg]; simp [Ideal.ofBits, Ideal.ieee, -EReal.coe_mul, -EReal.coe_neg]; norm_num
theorem neg_x_32 : Ideal.ofBits .f32 0xC3E00000#32 = -xMax := by
  rw [xMax_eq, ← EReal.coe_neg]; simp [Ideal.ofBits, Ideal.ieee, -EReal.coe_mul, -EReal.coe_neg]; norm_num
theorem dy_16 : Ideal.ofBits .bf16 0x4760#16 = dyMax := by
  rw [dyMax_eq]; simp [Ideal.ofBits, Ideal.ieee, -EReal.coe_mul]; norm_num
theorem neg_dy_16 : Ideal.ofBits .bf16 0xC760#16 = -dyMax := by
  rw [dyMax_eq, ← EReal.coe_neg]; simp [Ideal.ofBits, Ideal.ieee, -EReal.coe_mul, -EReal.coe_neg]; norm_num
theorem neg_dy_32 : Ideal.ofBits .f32 0xC7600000#32 = -dyMax := by
  rw [dyMax_eq, ← EReal.coe_neg]; simp [Ideal.ofBits, Ideal.ieee, -EReal.coe_mul, -EReal.coe_neg]; norm_num

/-! ## A quantised column

A column `v` of 3072 elements; `hi` is the format's largest number and `c` one over it, rounded. -/

/-- The kernel's exponent of a column, and the reference's. -/
def exponent (c : EReal) (v : Fin 3072 → EReal) : BitVec 32 := kernelExp (colMax v) (colMax v * c)
def refExponent (c : EReal) (v : Fin 3072 → EReal) : EReal := refExp (colMax v * c)

/-- The kernel's scale and codes. -/
def scale (c : EReal) (v : Fin 3072 → EReal) : EReal := kernelScale (exponent c v)
def code (hi c : EReal) (v : Fin 3072 → EReal) (r : Fin 3072) : EReal := min hi (max (-hi) (v r * kernelInverse (exponent c v)))

/-- The reference's scale and codes. -/
def refScale (c : EReal) (v : Fin 3072 → EReal) : EReal := Ideal.exp2 (refExponent c v)
def refCode (hi c : EReal) (v : Fin 3072 → EReal) (r : Fin 3072) : EReal := min hi (max (-hi) (v r * Ideal.exp2 (0 - refExponent c v)))

/-- A number the narrow input type can hold: infinite, or at most the type's largest in magnitude. -/
def Number (e : EReal) : Prop := max e (-e) = ⊤ ∨ max e (-e) ≤ (((2 : ℝ) ^ (128 : ℤ) : ℝ) : EReal)

theorem colMax_number (v : Fin 3072 → EReal) (h : ∀ r, Number (v r)) :
    0 ≤ colMax v ∧ (colMax v = ⊤ ∨ colMax v ≤ (((2 : ℝ) ^ (128 : ℤ) : ℝ) : EReal)) := by
  have hpos : ∀ e : EReal, 0 ≤ max e (-e) := fun e => by
    rcases le_total 0 e with h | h
    · exact le_max_of_le_left h
    · exact le_max_of_le_right (by simpa using EReal.neg_le_neg_iff.mpr h)
  have hle : ∀ r, max (v r) (-(v r)) ≤ colMax v := fun r => by
    unfold colMax
    exact Finset.le_fold_max _ |>.mpr (Or.inr ⟨r, Finset.mem_univ r, le_refl _⟩)
  refine ⟨le_trans (hpos (v 0)) (hle 0), ?_⟩
  by_cases hex : ∃ r, max (v r) (-(v r)) = ⊤
  · obtain ⟨r, hr⟩ := hex
    exact Or.inl (top_le_iff.mp (hr ▸ hle r))
  · refine Or.inr ?_
    unfold colMax
    refine (Finset.fold_max_le _).mpr ⟨bot_le, fun r _ => ?_⟩
    exact (h r).resolve_left fun e => hex ⟨r, e⟩

/-- On a column of such numbers the kernel's scale and codes are the reference's, for any factor in (0, 1/4). -/
theorem column_agree (hi : EReal) (q : ℝ) (hq : 0 < q) (hq1 : q < 1 / 4) (v : Fin 3072 → EReal) (h : ∀ r, Number (v r)) :
    scale (q : EReal) v = refScale (q : EReal) v ∧ ∀ r, code hi (q : EReal) v r = refCode hi (q : EReal) v r := by
  obtain ⟨h0, h1⟩ := colMax_number v h
  have key := agree (colMax v) (colMax v * (q : EReal)) ?_ (fun e => by rw [e, zero_mul])
  · exact ⟨key.1, fun r => by unfold code refCode; exact congrArg (fun e => min hi (max (-hi) (v r * e))) key.2⟩
  rcases h1 with h1 | h1
  · left
    rw [h1]
    exact EReal.top_mul_coe_of_pos hq
  · right
    obtain ⟨x, hx⟩ : ∃ x : ℝ, colMax v = (x : EReal) := by
      refine ⟨(colMax v).toReal, (EReal.coe_toReal (fun e => ?_) (fun e => ?_)).symm⟩
      · rw [e] at h1; exact absurd (top_le_iff.mp h1) (EReal.coe_ne_top _)
      · rw [e] at h0; exact absurd h0 (by simp)
    rw [hx] at h0 h1 ⊢
    have h0' : 0 ≤ x := EReal.coe_nonneg.mp h0
    have h1' : x ≤ (2 : ℝ) ^ (128 : ℤ) := EReal.coe_le_coe_iff.mp h1
    refine ⟨x * q, (EReal.coe_mul x q).symm, mul_nonneg h0' hq.le, ?_⟩
    have e : (2 : ℝ) ^ (128 : ℤ) = (2 : ℝ) ^ (126 : ℤ) * 4 := by norm_num
    have p : (0 : ℝ) < (2 : ℝ) ^ (126 : ℤ) := by positivity
    rw [e] at h1'
    calc x * q ≤ (2 : ℝ) ^ (126 : ℤ) * 4 * q := mul_le_mul_of_nonneg_right h1' hq.le
      _ < (2 : ℝ) ^ (126 : ℤ) := by nlinarith

theorem x_agree (v : Fin 3072 → EReal) (h : ∀ r, Number (v r)) :
    scale xInv v = refScale xInv v ∧ ∀ r, code xMax xInv v r = refCode xMax xInv v r := by
  rw [xInv_eq]; exact column_agree _ _ (by norm_num) (by norm_num) v h

theorem dy_agree (v : Fin 3072 → EReal) (h : ∀ r, Number (v r)) :
    scale dyInv v = refScale dyInv v ∧ ∀ r, code dyMax dyInv v r = refCode dyMax dyInv v r := by
  rw [dyInv_eq]; exact column_agree _ _ (by norm_num) (by norm_num) v h

end Cert.Quantise
-- ==== Proof.KernelPay.lean ====
/-
   The values the kernel's body stores, element by element, over the extended reals: the exponent, scale and codes of a
   column from the column's largest magnitude, and an element of the product from a column of codes of each operand.
-/
module

public import proofs.«01_k».proof.Proof.KernelBody
public import proofs.«01_k».proof.Proof.Column
public import Idealize.ShloMosaic.Lib.Pointwise
public import Idealize.ShloMosaic.PureOps.Ideal.Laws
public import Idealize.ShloMosaic.Lib.Claim
public import Idealize.ShloMosaic.Lib.VecWindow
public import Idealize.ShloMosaic.Lib.Pointwise.Index
public import Idealize.ShloMosaic.Lib.Pipeline.Value

@[expose] public section

-- membership in a rectangle of production extents recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Quantise

/-! ## The exponent of a column -/

/-- The exponent fields of the 256 numbers of a row. -/
def fieldRow (y : FVec Ideal S1x256 .f32) : IVec S1x256 32 :=
  shapeCast S1x256 (multiReductionI .maxsi [0] S256
    (select (cmpf .oge (broadcastTo S256x256 y broadcasts_S1x256_S256x256)
        (bitcastToFloat .f32 (shli (iota .tc S256x256 32 [0] iota_S256x256_d0_w32) (broadcast S256x256 23#32))))
      (iota .tc S256x256 32 [0] iota_S256x256_d0_w32) (broadcast S256x256 0#32))
    2147483648#32 reduces_S256x256_S256 rfl) shapeCasts_S256_S1x256

theorem fieldRow_apply (y : FVec Ideal S1x256 .f32) (j : Fin 256) : fieldRow y (ix2 0 j) = field (y (ix2 0 j)) := by
  unfold fieldRow field ofField
  pointwise

/-- The exponents of the 256 columns of largest magnitudes `a`. -/
def expRow (a : FVec Ideal S1x256 .f32) (c z : Ideal .f32) : IVec S1x256 32 :=
  select (ori (ori (cmpi .eq (fieldRow (mulf a (broadcast S1x256 c))) (broadcast S1x256 0#32))
      (cmpi .eq (fieldRow (mulf a (broadcast S1x256 c))) (broadcast S1x256 255#32))) (cmpf .oeq a (broadcast S1x256 z)))
    (broadcast S1x256 0#32) (subi (fieldRow (mulf a (broadcast S1x256 c))) (broadcast S1x256 126#32))

theorem expRow_apply (a : FVec Ideal S1x256 .f32) (c z : Ideal .f32) (hz : z = 0) (j : Fin 256) :
    expRow a c z (ix2 0 j) = kernelExp (a (ix2 0 j)) (a (ix2 0 j) * c) := by
  subst hz
  have h : field (a (ix2 0 j) * c) = fieldRow (mulf a (broadcast S1x256 c)) (ix2 0 j) := by
    rw [fieldRow_apply]; rfl
  unfold expRow kernelExp
  rw [h]
  rfl

/-- The largest magnitudes of the 256 columns of a block. -/
def maxRow (v : FVec Ideal S3072x256 .bf16) : FVec Ideal S1x256 .f32 :=
  extf .f32 (shapeCast S1x256 (multiReduction .maximumf [0] S256 (absf v) 0xFF80#16 reduces_S3072x256_S256 (.inr rfl) rfl)
    shapeCasts_S256_S1x256) bitsLt_bf16_f32

theorem maxRow_apply (v : FVec Ideal S3072x256 .bf16) (j : Fin 256) : maxRow v (ix2 0 j) = colMax fun r => v (ix2 r j) := by
  unfold maxRow colMax
  pointwise
  rw [← neg_inf_16]
  rfl

theorem pay9_apply (v : Vec Ideal S3072x256 .bf16) (j : Fin 256) : k0_pay9 v (ix2 0 j) = exponent dyInv fun r => v (ix2 r j) := by
  have h : k0_pay9 v = expRow (maxRow v) (Scalar.ofBits .f32 0x37924925#32) (Scalar.ofBits .f32 0x00000000#32) := by
    unfold k0_pay9 k0_pay8
    rw [shapeCast_self]
    rfl
  exact (congrFun h _).trans ((expRow_apply _ _ _ zero_32 j).trans (by rw [maxRow_apply]; rfl))

theorem pay13_apply (v : Vec Ideal S3072x256 .bf16) (j : Fin 256) : k0_pay13 v (ix2 0 j) = exponent xInv fun r => v (ix2 r j) := by
  have h : k0_pay13 v = expRow (maxRow v) (Scalar.ofBits .f32 0x3B124925#32) (Scalar.ofBits .f32 0x00000000#32) := by
    unfold k0_pay13 k0_pay12
    rw [shapeCast_self]
    rfl
  exact (congrFun h _).trans ((expRow_apply _ _ _ zero_32 j).trans (by rw [maxRow_apply]; rfl))

/-! ## Its scale, and the number the column is multiplied by -/

theorem pay10_apply (v : Vec Ideal S3072x256 .bf16) (j : Fin 256) : k0_pay10 v (ix2 0 j) = scale dyInv fun r => v (ix2 r j) := by
  unfold scale
  rw [← pay9_apply]; rfl
theorem pay14_apply (v : Vec Ideal S3072x256 .bf16) (j : Fin 256) : k0_pay14 v (ix2 0 j) = scale xInv fun r => v (ix2 r j) := by
  unfold scale
  rw [← pay13_apply]; rfl
theorem pay11_apply (v : Vec Ideal S3072x256 .bf16) (j : Fin 256) : k0_pay11 v (ix2 0 j) = kernelInverse (exponent dyInv fun r => v (ix2 r j)) := by
  rw [← pay9_apply]; rfl
theorem pay15_apply (v : Vec Ideal S3072x256 .bf16) (j : Fin 256) : k0_pay15 v (ix2 0 j) = kernelInverse (exponent xInv fun r => v (ix2 r j)) := by
  rw [← pay13_apply]; rfl

/-- A row of scales stored as a rank-3 block. -/
theorem scaleBlock_apply (s : FVec Ideal S1x256 .f32) (j : Fin 256) : shapeCast S1x1x256 s shapeCasts_S1x256_S1x1x256 (ix3 0 0 j) = s (ix2 0 j) := by
  pointwise

/-! ## The codes -/

theorem clip_apply {φ : FTy} (h : φ.bits < FTy.bits .bf16) (w : FVec Ideal S3072x256 .bf16) (u : FVec Ideal S1x256 .bf16) (lo hi : Ideal .bf16) (r : Fin 3072) (j : Fin 256) :
    truncf φ (minimumf (broadcast S3072x256 hi) (maximumf (broadcast S3072x256 lo)
      (mulf w (broadcastTo S3072x256 u broadcasts_S1x256_S3072x256)))) h (ix2 r j) = min hi (max lo (w (ix2 r j) * u (ix2 0 j))) := by
  pointwise

theorem dyCodes_apply (v : Vec Ideal S3072x256 .bf16) (r : Fin 3072) (j : Fin 256) :
    dyCodes v (ix2 r j) = code dyMax dyInv (fun r => v (ix2 r j)) r := by
  unfold dyCodes k0_pay8 code k0_pay1
  rw [shapeCast_self, ← pay11_apply, ← neg_dy_16, ← dy_16]
  exact clip_apply _ _ _ _ _ _ _

theorem xCodes_apply (v : Vec Ideal S3072x256 .bf16) (r : Fin 3072) (j : Fin 256) :
    xCodes v (ix2 r j) = code xMax xInv (fun r => v (ix2 r j)) r := by
  unfold xCodes k0_pay12 code k0_pay5
  rw [shapeCast_self, ← pay15_apply, ← neg_x_16, ← x_16]
  exact clip_apply _ _ _ _ _ _ _

/-! ## The product -/

theorem product_apply (p : FVec Ideal S3072x256 .fp8e4m3) (s : FVec Ideal S1x256 .f32) (q : FVec Ideal S3072x2048 .fp8e5m2)
    (mg : FVec Ideal S256x2048 .f32) (d : FVec Ideal S1x2048 .f32) (r : Fin 256) (j : Fin 2048) :
    addf mg (mulf (matmul dot_S3072x256_S3072x2048_S256x2048_0_0_1_1_n_n none p q (constant S256x2048 .f32 0x00000000#32))
      (mulf (broadcastTo S256x2048 (extractStridedSlice S256x1 ![0, 0] (transpose S256x8 [1, 0] (broadcastTo S8x256 s broadcasts_S1x256_S8x256)
          transposes_S8x256_p1_0_S256x8) slices_S256x8_o0_0_S256x1) broadcasts_S256x1_S256x2048)
        (broadcastTo S256x2048 d broadcasts_S1x2048_S256x2048))) (ix2 r j)
    = mg (ix2 r j) + (∑ k, p (ix2 k r) * q (ix2 k j)) * (s (ix2 0 r) * d (ix2 0 j)) := by
  pointwise

theorem outBlock_apply (x : Vec Ideal S3072x256 .bf16) (mg : Vec Ideal S256x2048 .f32) (q : Vec Ideal S3072x2048 .fp8e5m2) (d : Vec Ideal S1x2048 .f32)
    (r : Fin 256) (j : Fin 2048) : outBlock x mg q d (ix2 r j)
    = mg (ix2 r j) + (∑ k, xCodes x (ix2 k r) * q (ix2 k j)) * ((scale xInv fun k => x (ix2 k r)) * d (ix2 0 j)) := by
  rw [← pay14_apply]
  unfold outBlock k0_pay7
  rw [shapeCast_self]
  exact product_apply _ _ _ _ _ _ _

end Cert.KernelIdeal.Run
-- ==== Proof.KernelValue.lean ====
/-
   The five arrays the kernel leaves, element by element, over the extended reals.
-/
module

public import proofs.«01_k».proof.Proof.KernelRun
public import Idealize.ShloMosaic.Lib.Pointwise
public import Idealize.ShloMosaic.PureOps.Ideal.Laws
public import Idealize.ShloMosaic.Lib.Claim
public import Idealize.ShloMosaic.Lib.VecWindow
public import Idealize.ShloMosaic.Lib.Pointwise.Index
public import Idealize.ShloMosaic.Lib.Pipeline.ValueKit
public import proofs.«01_k».proof.Proof.KernelPay

@[expose] public section

-- membership in a rectangle of production extents recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Quantise

variable (m : (ℓ : Loc nD τ sig) → Buf (Elt Ideal) ℓ)

/-! ## The three operands as the region finds them -/

abbrev X (c : Dev nD) : Vec Ideal S3072x4608 .bf16 := V m c (Pipeline.arrRef spec0 0)
abbrev DY (c : Dev nD) : Vec Ideal S3072x2048 .bf16 := V m c (Pipeline.arrRef spec0 1)
abbrev MG (c : Dev nD) : Vec Ideal S4608x2048 .f32 := V m c (Pipeline.arrRef spec0 2)

/-- A column of `x`, and of `dy`. -/
abbrev xCol (c : Dev nD) (j : Fin 4608) : Fin 3072 → EReal := fun r => X m c (ix2 r j)
abbrev dyCol (c : Dev nD) (j : Fin 2048) : Fin 3072 → EReal := fun r => DY m c (ix2 r j)

/-- The blocks the windows hold at each point: the points on `x` go through its blocks, the others through those of `dy`. -/
theorem idx : ∀ t : Fin cfg0.N, (cfg0.win 0).index t = ![0, t.val - 8] ∧ (cfg0.win 1).index t = ![0, min t.val 7]
    ∧ (cfg0.win 2).index t = ![t.val - 8, 0] ∧ (cfg0.win 3).index t = ![t.val - 8, 0] ∧ (cfg0.win 4).index t = ![0, t.val - 8]
    ∧ (cfg0.win 5).index t = ![t.val - 8, 0, 0] ∧ (cfg0.win 6).index t = ![0, min t.val 7] ∧ (cfg0.win 7).index t = ![min t.val 7, 0, 0] :=
  (by decide +kernel : ∀ t : Fin grid0.N, (cfg0.win 0).index t = ![0, t.val - 8] ∧ (cfg0.win 1).index t = ![0, min t.val 7]
    ∧ (cfg0.win 2).index t = ![t.val - 8, 0] ∧ (cfg0.win 3).index t = ![t.val - 8, 0] ∧ (cfg0.win 4).index t = ![0, t.val - 8]
    ∧ (cfg0.win 5).index t = ![t.val - 8, 0, 0] ∧ (cfg0.win 6).index t = ![0, min t.val 7] ∧ (cfg0.win 7).index t = ![min t.val 7, 0, 0])

theorem lt_26 (t : Fin cfg0.N) : t.val < 26 := lt_of_lt_of_eq t.isLt (show cfg0.N = 26 from N_0)

theorem xBlk_apply (c : Dev nD) (t : Fin cfg0.N) (r : Fin 3072) (j : Fin 256) :
    xBlk m c t (ix2 r j) = X m c (ix2 r ⟨256 * (t.val - 8) + j.val, by have := lt_26 t; omega⟩) := by
  have h := (idx t).1
  unfold xBlk X
  blk_ext [iblk, h]

theorem dyBlk_apply (c : Dev nD) (t : Fin cfg0.N) (r : Fin 3072) (j : Fin 256) :
    dyBlk m c t (ix2 r j) = DY m c (ix2 r ⟨256 * (min t.val 7) + j.val, by omega⟩) := by
  have h := (idx t).2.1
  unfold dyBlk DY
  blk_ext [iblk, h]

theorem mgBlk_apply (c : Dev nD) (t : Fin cfg0.N) (r : Fin 256) (j : Fin 2048) :
    mgBlk m c t (ix2 r j) = MG m c (ix2 ⟨256 * (t.val - 8) + r.val, by have := lt_26 t; omega⟩ j) := by
  have h := (idx t).2.2.1
  unfold mgBlk MG
  blk_ext [iblk, h]

/-! ## The kept codes and scales -/

theorem allCodes_apply (c : Dev nD) (r : Fin 3072) (j : Fin 2048) : allCodes m c (ix2 r j) = code dyMax dyInv (dyCol m c j) r := by
  refine (dyCodes_apply _ r ⟨j.val % 256, Nat.mod_lt _ (by decide)⟩).trans ?_
  refine congrArg (fun v => code dyMax dyInv v r) (funext fun k => (dyBlk_apply m c _ k _).trans ?_)
  exact congrArg (fun i => DY m c (ix2 k i)) (Fin.ext (by show 256 * min (j.val / 256) 7 + j.val % 256 = j.val; omega))

theorem allScales_apply (c : Dev nD) (j : Fin 2048) : allScales m c (ix2 0 j) = scale dyInv (dyCol m c j) := by
  refine (pay10_apply _ ⟨j.val % 256, Nat.mod_lt _ (by decide)⟩).trans ?_
  refine congrArg (fun v => scale dyInv v) (funext fun k => (dyBlk_apply m c _ k _).trans ?_)
  exact congrArg (fun i => DY m c (ix2 k i)) (Fin.ext (by show 256 * min (j.val / 256) 7 + j.val % 256 = j.val; omega))

/-- A column of a block of `x` is a column of `x`. -/
theorem xBlk_col (c : Dev nD) (t : Fin cfg0.N) (j : Fin 256) (i : Fin 4608) (h : i.val = 256 * (t.val - 8) + j.val) :
    (fun k => xBlk m c t (ix2 k j)) = xCol m c i :=
  funext fun k => (xBlk_apply m c t k j).trans (congrArg (fun a => X m c (ix2 k a)) (Fin.ext h.symm))

theorem dyBlk_col (c : Dev nD) (t : Fin cfg0.N) (j : Fin 256) (i : Fin 2048) (h : i.val = 256 * (min t.val 7) + j.val) :
    (fun k => dyBlk m c (lastDy t) (ix2 k j)) = dyCol m c i :=
  funext fun k => (dyBlk_apply m c (lastDy t) k j).trans (congrArg (fun a => DY m c (ix2 k a)) (Fin.ext (by
    show 256 * min (min t.val 7) 7 + j.val = i.val; omega)))

/-! ## The arrays -/

/-- The accumulated product. -/
def outArr (c : Dev nD) : Vec Ideal S4608x2048 .f32 := fun i =>
  MG m c (ix2 (i 0) (i 1)) + (∑ k, code xMax xInv (xCol m c (i 0)) k * code dyMax dyInv (dyCol m c (i 1)) k)
    * (scale xInv (xCol m c (i 0)) * scale dyInv (dyCol m c (i 1)))
/-- The codes of `x`, and of `dy`. -/
def xCodeArr (c : Dev nD) : Vec Ideal S3072x4608 .fp8e4m3 := fun i => code xMax xInv (xCol m c (i 1)) (i 0)
def dyCodeArr (c : Dev nD) : Vec Ideal S3072x2048 .fp8e5m2 := fun i => code dyMax dyInv (dyCol m c (i 1)) (i 0)
/-- Their scales, 256 in each row. -/
def xScaleArr (c : Dev nD) : Vec Ideal S18x1x256 .f32 := fun i =>
  scale xInv (xCol m c ⟨256 * (i 0).val + (i 2).val, by have h0 : (i 0).val < 18 := (i 0).isLt; have h2 : (i 2).val < 256 := (i 2).isLt; omega⟩)
def dyScaleArr (c : Dev nD) : Vec Ideal S8x1x256 .f32 := fun i =>
  scale dyInv (dyCol m c ⟨256 * (i 0).val + (i 2).val, by have h0 : (i 0).val < 8 := (i 0).isLt; have h2 : (i 2).val < 256 := (i 2).isLt; omega⟩)

theorem out_at (c : Dev nD) (t : Fin cfg0.N) (a : Fin 256) (b : Fin 2048) (i : Fin 4608) (h : i.val = 256 * (t.val - 8) + a.val) :
    outAt m c t (ix2 a b) = outArr m c (ix2 i b) := by
  refine (outBlock_apply _ _ _ _ a b).trans ?_
  rw [mgBlk_apply, xBlk_col m c t a i h, allScales_apply]
  refine congrArg₂ (fun u v : EReal => u + v * _) (congrArg (fun u => MG m c (ix2 u b)) (Fin.ext h.symm)) ?_
  refine Finset.sum_congr rfl fun k _ => ?_
  rw [xCodes_apply, allCodes_apply, xBlk_col m c t a i h]
  rfl

theorem out_block (c : Dev nD) (t : Fin cfg0.N) (y : S256x2048.Idx) (i : S4608x2048.Idx)
    (h0 : (i 0).val = 256 * (t.val - 8) + (y 0).val) (h1 : (i 1).val = (y 1).val) : outAt m c t y = outArr m c i := by
  have e1 : i 1 = y 1 := Fin.ext h1
  refine (congrArg _ (eq_ix2 y)).trans ((out_at m c t (y 0) (y 1) (i 0) h0).trans (congrArg _ ?_))
  refine Eq.trans ?_ (eq_ix2 i).symm
  rw [e1]

theorem xCode_block (c : Dev nD) (t : Fin cfg0.N) (y : S3072x256.Idx) (i : S3072x4608.Idx)
    (h0 : (i 0).val = (y 0).val) (h1 : (i 1).val = 256 * (t.val - 8) + (y 1).val) : xCodes (xBlk m c t) y = xCodeArr m c i := by
  have e0 : i 0 = y 0 := Fin.ext h0
  rw [eq_ix2 y]
  refine (xCodes_apply _ (y 0) (y 1)).trans ?_
  unfold xCodeArr
  rw [xBlk_col m c t (y 1) (i 1) h1, e0]

theorem dyCode_block (c : Dev nD) (t : Fin cfg0.N) (y : S3072x256.Idx) (i : S3072x2048.Idx)
    (h0 : (i 0).val = (y 0).val) (h1 : (i 1).val = 256 * (min t.val 7) + (y 1).val) : dyCodes (dyBlk m c (lastDy t)) y = dyCodeArr m c i := by
  have e0 : i 0 = y 0 := Fin.ext h0
  rw [eq_ix2 y]
  refine (dyCodes_apply _ (y 0) (y 1)).trans ?_
  unfold dyCodeArr
  rw [dyBlk_col m c t (y 1) (i 1) h1, e0]

theorem xScale_block (c : Dev nD) (t : Fin cfg0.N) (y : S1x1x256.Idx) (i : S18x1x256.Idx)
    (h0 : (i 0).val = t.val - 8) (h2 : (i 2).val = (y 2).val) : k0_pay6 (k0_pay14 (xBlk m c t)) y = xScaleArr m c i := by
  obtain ⟨j, rfl⟩ : ∃ j : Fin 256, y = ix3 0 0 j := ⟨y 2, by
    refine (eq_ix3 y).trans ?_
    rw [show y 0 = (0 : Fin 1) from Subsingleton.elim (α := Fin 1) _ _, show y 1 = (0 : Fin 1) from Subsingleton.elim (α := Fin 1) _ _]⟩
  refine (scaleBlock_apply _ j).trans ((pay14_apply _ j).trans ?_)
  unfold xScaleArr
  refine congrArg (scale xInv) (xBlk_col m c t j _ ?_)
  show 256 * (i 0).val + (i 2).val = 256 * (t.val - 8) + j.val
  rw [h0, h2]; rfl

theorem dyScale_block (c : Dev nD) (t : Fin cfg0.N) (y : S1x1x256.Idx) (i : S8x1x256.Idx)
    (h0 : (i 0).val = min t.val 7) (h2 : (i 2).val = (y 2).val) : k0_pay2 (k0_pay10 (dyBlk m c (lastDy t))) y = dyScaleArr m c i := by
  obtain ⟨j, rfl⟩ : ∃ j : Fin 256, y = ix3 0 0 j := ⟨y 2, by
    refine (eq_ix3 y).trans ?_
    rw [show y 0 = (0 : Fin 1) from Subsingleton.elim (α := Fin 1) _ _, show y 1 = (0 : Fin 1) from Subsingleton.elim (α := Fin 1) _ _]⟩
  refine (scaleBlock_apply _ j).trans ((pay10_apply _ j).trans ?_)
  unfold dyScaleArr
  refine congrArg (scale dyInv) (dyBlk_col m c t j _ ?_)
  show 256 * (i 0).val + (i 2).val = 256 * (min t.val 7) + j.val
  rw [h0, h2]; rfl

theorem out_final (c : Dev nD) : (dats m 0 c).arrAt 3 cfg0.N = outArr m c := by
  refine (dats m 0 c).arrAt_eq_of_covers 3 _ (by decide +kernel) fun t hf y => ?_
  have h := (idx t).2.2.2.1
  blk_simp [h]
  rw [after_3]
  exact out_block m c t y _ (by blk_simp [h]; try omega) (by blk_simp [h]; try omega)

theorem xCode_final (c : Dev nD) : (dats m 0 c).arrAt 4 cfg0.N = xCodeArr m c := by
  refine (dats m 0 c).arrAt_eq_of_covers 4 _ (by decide +kernel) fun t hf y => ?_
  have h := (idx t).2.2.2.2.1
  blk_simp [h]
  rw [after_4]
  exact xCode_block m c t y _ (by blk_simp [h]; try omega) (by blk_simp [h]; try omega)

theorem xScale_final (c : Dev nD) : (dats m 0 c).arrAt 5 cfg0.N = xScaleArr m c := by
  refine (dats m 0 c).arrAt_eq_of_covers 5 _ (by decide +kernel) fun t hf y => ?_
  have h := (idx t).2.2.2.2.2.1
  blk_simp [h]
  rw [after_5]
  exact xScale_block m c t y _ (by blk_simp [h]; try omega) (by blk_simp [h]; try omega)

theorem dyCode_final (c : Dev nD) : (dats m 0 c).arrAt 6 cfg0.N = dyCodeArr m c := by
  refine (dats m 0 c).arrAt_eq_of_covers 6 _ (by decide +kernel) fun t hf y => ?_
  have h := (idx t).2.2.2.2.2.2.1
  blk_simp [h]
  rw [after_6]
  exact dyCode_block m c t y _ (by blk_simp [h]; try omega) (by blk_simp [h]; try omega)

theorem dyScale_final (c : Dev nD) : (dats m 0 c).arrAt 7 cfg0.N = dyScaleArr m c := by
  refine (dats m 0 c).arrAt_eq_of_covers 7 _ (by decide +kernel) fun t hf y => ?_
  have h := (idx t).2.2.2.2.2.2.2
  blk_simp [h]
  rw [after_7]
  exact dyScale_block m c t y _ (by blk_simp [h]; try omega) (by blk_simp [h]; try omega)

end Cert.KernelIdeal.Run
-- ==== Proof.ReferencePay.lean ====
/-
   The values the reference stores, element by element, over the extended reals.
-/
module

public import proofs.«01_k».proof.Proof.Gen.ReferenceIdeal.Frame
public import proofs.«01_k».proof.Proof.Column
public import Idealize.ShloMosaic.Lib.Pointwise
public import Idealize.ShloMosaic.PureOps.Ideal.Laws
public import Idealize.ShloMosaic.Lib.Claim
public import Idealize.ShloMosaic.Lib.VecWindow
public import Idealize.ShloMosaic.Lib.Pointwise.Index
public import Idealize.ShloMosaic.Lib.Pipeline.Value

@[expose] public section

-- membership in a rectangle of production extents recurses once per coordinate of the long axes
set_option maxRecDepth 16384

noncomputable section

namespace Cert.ReferenceIdeal.Run

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Quantise

/-! ## Readings at any shape -/

/-- `y` with what lies below the smallest normal number replaced by zero. -/
def flushRow {s : Shape} (y : FVec Ideal s .f32) (tiny z : Ideal .f32) : FVec Ideal s .f32 :=
  select (cmpf .olt y (broadcast s tiny)) (broadcast s z) y

/-- The exponents of columns, `y` their largest magnitudes over the format's largest number. -/
def expRow {s : Shape} (y : FVec Ideal s .f32) (tiny z two inf one : Ideal .f32) : FVec Ideal s .f32 :=
  select (ori (cmpf .oeq (flushRow y tiny z) (broadcast s z)) (cmpf .oeq (flushRow y tiny z) (broadcast s inf))) (broadcast s z)
    (addf (floor (divf (log (flushRow y tiny z)) (log (broadcast s two)))) (broadcast s one))

theorem expRow_apply {s : Shape} (y : FVec Ideal s .f32) (tiny z two inf one : Ideal .f32) (i : s.Idx)
    (ht : tiny = Ideal.ofBits .f32 0x00800000#32) (hz : z = (0 : EReal)) (h2 : two = Ideal.ofBits .f32 0x40000000#32)
    (hi : inf = Ideal.ofBits .f32 0x7F800000#32) (h1 : one = (1 : EReal)) :
    expRow y tiny z two inf one i = refExp (y i) := by
  have hf : flushRow y tiny z i = if y i < tiny then (0 : EReal) else y i := by
    subst hz; exact Scalar.select_decide _ _ _
  unfold refExp
  rw [← ht, ← h2, ← hi, ← hf]
  subst hz h1
  rfl

/-- A column's elements scaled and clipped, `b` what each is multiplied by. -/
theorem clip_apply {s : Shape} {φ : FTy} (h : φ.bits < FTy.bits .f32) (w b : FVec Ideal s .f32) (lo hi : Ideal .f32) (i : s.Idx) :
    truncf φ (minimumf (broadcast s hi) (maximumf (broadcast s lo) (mulf w b))) h i = min hi (max lo (w i * b i)) := rfl

theorem zero_at : Scalar.ofBits (F := Ideal) .f32 0x00000000#32 = (0 : EReal) := zero_32

/-- Two to the negated exponents. -/
theorem inverse_apply {s : Shape} (z : Ideal .f32) (u : FVec Ideal s .f32) (i : s.Idx) (hz : z = (0 : EReal)) :
    exp2 (subf (broadcast s z) u) i = Ideal.exp2 ((0 : EReal) - u i) := by subst hz; rfl

/-! ## `x` -/

theorem pay1_eq (v : Vec Ideal S3072x4608 .bf16) : k0_pay1 v = v := by
  unfold k0_pay1; rw [shapeCast_self]; rfl
theorem pay5_eq (v : Vec Ideal S3072x2048 .bf16) : k0_pay5 v = v := by
  unfold k0_pay5; rw [shapeCast_self]; rfl

/-- The largest magnitudes of the columns of `x`. -/
def xMaxRow (v : FVec Ideal S3072x4608 .f32) : FVec Ideal S1x4608 .f32 :=
  shapeCast S1x4608 (multiReduction .maximumf [0] S4608 (absf v) 0xFF800000#32 reduces_S3072x4608_S4608 (.inl rfl) rfl)
      shapeCasts_S4608_S1x4608

theorem xMaxRow_apply (v : FVec Ideal S3072x4608 .f32) (j : Fin 4608) : xMaxRow v (ix2 0 j) = colMax fun r => v (ix2 r j) := by
  unfold xMaxRow colMax
  pointwise
  rw [← neg_inf_32]
  rfl

theorem pay6_apply (v : Vec Ideal S3072x2048 .bf16) (j : Fin 2048) : k0_pay6 v (ix2 0 j) = colMax fun r => v (ix2 r j) := by
  unfold k0_pay6
  rw [pay5_eq]
  unfold colMax
  pointwise
  rw [← neg_inf_32]
  rfl

theorem pay2_eq (v : Vec Ideal S3072x4608 .bf16) : k0_pay2 v = expRow (mulf (xMaxRow (k0_pay1 v)) (broadcast S1x4608 (xInv : Ideal .f32)))
    (Ideal.ofBits .f32 0x00800000#32) (Ideal.ofBits .f32 0x00000000#32) (Ideal.ofBits .f32 0x40000000#32)
    (Ideal.ofBits .f32 0x7F800000#32) (Ideal.ofBits .f32 0x3F800000#32) := by
  unfold k0_pay2
  rfl

/-- A row times a number, element by element. -/
theorem scaled_at {s : Shape} (a : FVec Ideal s .f32) (c : Ideal .f32) (i : s.Idx) : mulf a (broadcast s c) i = (a i * c : EReal) := rfl

theorem pay2_apply (v : Vec Ideal S3072x4608 .bf16) (j : Fin 4608) : k0_pay2 v (ix2 0 j) = refExponent xInv fun r => v (ix2 r j) := by
  have h := expRow_apply (mulf (xMaxRow (k0_pay1 v)) (broadcast S1x4608 (xInv : Ideal .f32))) (Ideal.ofBits .f32 0x00800000#32)
    (Ideal.ofBits .f32 0x00000000#32) (Ideal.ofBits .f32 0x40000000#32) (Ideal.ofBits .f32 0x7F800000#32) (Ideal.ofBits .f32 0x3F800000#32) (ix2 0 j)
    rfl zero_32 rfl rfl one_32
  rw [scaled_at, xMaxRow_apply] at h
  rw [pay2_eq, h, pay1_eq, refExponent]

/-- Two to a row, element by element. -/
theorem exp2_at {s : Shape} (u : FVec Ideal s .f32) (i : s.Idx) : exp2 u i = Ideal.exp2 (u i) := rfl

theorem pay7_apply (a : FVec Ideal S1x2048 .f32) (j : Fin 2048) : k0_pay7 a (ix2 0 j) = refExp (a (ix2 0 j) * dyInv) :=
  expRow_apply (mulf a (broadcast S1x2048 (Scalar.ofBits (F := Ideal) .f32 0x37924925#32))) _ _ _ _ _ (ix2 0 j) rfl zero_32 rfl rfl one_32

theorem pay3_apply (v : Vec Ideal S3072x4608 .bf16) (r : Fin 3072) (j : Fin 4608) :
    k0_pay3 v (ix2 r j) = refCode xMax xInv (fun r => v (ix2 r j)) r := by
  have hb : ∀ u : FVec Ideal S1x4608 .f32, broadcastTo S3072x4608 u broadcasts_S1x4608_S3072x4608 (ix2 r j) = u (ix2 0 j) := by
    intro u; pointwise
  unfold k0_pay3 refCode
  refine (clip_apply (φ := .fp8e4m3) bitsLt_fp8e4m3_f32 _ _ _ _ _).trans ?_
  rw [hb, inverse_apply _ _ _ zero_at, pay2_apply, pay1_eq]
  exact congrArg₂ (fun lo e : EReal => min xMax (max lo e)) neg_x_32 rfl

theorem pay4_apply (v : Vec Ideal S3072x4608 .bf16) (j : Fin 4608) : k0_pay4 v (ix2 0 j) = refScale xInv fun r => v (ix2 r j) :=
  (exp2_at (k0_pay2 v) (ix2 0 j)).trans (congrArg Ideal.exp2 (pay2_apply v j))

/-! ## `dy` -/

theorem dyExp_apply (v : Vec Ideal S3072x2048 .bf16) (j : Fin 2048) : k0_pay7 (k0_pay6 v) (ix2 0 j) = refExponent dyInv fun r => v (ix2 r j) :=
  (pay7_apply (k0_pay6 v) j).trans (congrArg refExp (congrArg (fun a : EReal => a * dyInv) (pay6_apply v j)))

theorem pay8_apply (v : Vec Ideal S3072x2048 .bf16) (r : Fin 3072) (j : Fin 2048) :
    k0_pay8 (k0_pay5 v) (k0_pay6 v) (ix2 r j) = refCode dyMax dyInv (fun r => v (ix2 r j)) r := by
  have hb : ∀ u : FVec Ideal S1x2048 .f32, broadcastTo S3072x2048 u broadcasts_S1x2048_S3072x2048 (ix2 r j) = u (ix2 0 j) := by
    intro u; pointwise
  unfold k0_pay8 refCode
  refine (clip_apply (φ := .fp8e5m2) bitsLt_fp8e5m2_f32 _ _ _ _ _).trans ?_
  rw [hb, inverse_apply _ _ _ zero_at, dyExp_apply, pay5_eq]
  exact congrArg₂ (fun lo e : EReal => min dyMax (max lo e)) neg_dy_32 rfl

theorem pay9_apply (v : Vec Ideal S3072x2048 .bf16) (j : Fin 2048) : k0_pay9 (k0_pay6 v) (ix2 0 j) = refScale dyInv fun r => v (ix2 r j) :=
  (exp2_at (k0_pay7 (k0_pay6 v)) (ix2 0 j)).trans (congrArg Ideal.exp2 (dyExp_apply v j))

/-! ## The product -/

theorem product_apply (p : FVec Ideal S3072x4608 .fp8e4m3) (s : FVec Ideal S1x4608 .f32) (q : FVec Ideal S3072x2048 .fp8e5m2)
    (mg : FVec Ideal S4608x2048 .f32) (d : FVec Ideal S1x2048 .f32) (r : Fin 4608) (j : Fin 2048) :
    addf mg (mulf (matmul dot_S3072x4608_S3072x2048_S4608x2048_0_0_1_1_n_n none p q (constant S4608x2048 .f32 0x00000000#32))
      (mulf (broadcastTo S4608x2048 (transpose S4608x1 [1, 0] s transposes_S1x4608_p1_0_S4608x1) broadcasts_S4608x1_S4608x2048)
        (broadcastTo S4608x2048 d broadcasts_S1x2048_S4608x2048))) (ix2 r j)
    = mg (ix2 r j) + (∑ k, p (ix2 k r) * q (ix2 k j)) * (s (ix2 0 r) * d (ix2 0 j)) := by
  pointwise

theorem pay10_apply (p : FVec Ideal S3072x4608 .fp8e4m3) (s : FVec Ideal S1x4608 .f32) (v : FVec Ideal S3072x2048 .f32) (a : FVec Ideal S1x2048 .f32)
    (mg : Vec Ideal S4608x2048 .f32) (r : Fin 4608) (j : Fin 2048) :
    k0_pay10 p s v a mg (ix2 r j) = mg (ix2 r j) + (∑ k, p (ix2 k r) * k0_pay8 v a (ix2 k j)) * (s (ix2 0 r) * k0_pay9 a (ix2 0 j)) :=
  product_apply p s (k0_pay8 v a) mg (k0_pay9 a) r j

end Cert.ReferenceIdeal.Run
-- ==== Proof.ReferenceValue.lean ====
/-
   The five arrays the reference leaves, element by element, over the extended reals.
-/
module

public import proofs.«01_k».proof.Proof.Gen.ReferenceIdeal.Frame
public import Idealize.ShloMosaic.Lib.Pointwise
public import Idealize.ShloMosaic.PureOps.Ideal.Laws
public import Idealize.ShloMosaic.Lib.Claim
public import Idealize.ShloMosaic.Lib.VecWindow
public import Idealize.ShloMosaic.Lib.Pointwise.Index
public import Idealize.ShloMosaic.Lib.Pipeline.ValueKit
public import proofs.«01_k».proof.Proof.ReferencePay

@[expose] public section

-- membership in a rectangle of production extents recurses once per coordinate of the long axes
set_option maxRecDepth 16384

noncomputable section

namespace Cert.ReferenceIdeal.Run

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Quantise

variable (m : (ℓ : Loc nD τ sig) → Buf (Elt Ideal) ℓ)

/-! ## The three operands as the region finds them -/

abbrev X (c : Dev nD) : Vec Ideal S3072x4608 .bf16 := V m c (Pipeline.arrRef spec0 0)
abbrev DY (c : Dev nD) : Vec Ideal S3072x2048 .bf16 := V m c (Pipeline.arrRef spec0 1)
abbrev MG (c : Dev nD) : Vec Ideal S4608x2048 .f32 := V m c (Pipeline.arrRef spec0 2)

/-- A column of `x`, and of `dy`. -/
abbrev xCol (c : Dev nD) (j : Fin 4608) : Fin 3072 → EReal := fun r => X m c (ix2 r j)
abbrev dyCol (c : Dev nD) (j : Fin 2048) : Fin 3072 → EReal := fun r => DY m c (ix2 r j)

/-- Every window's block is its whole array. -/
theorem idx : ∀ t : Fin cfg0.N, (cfg0.win 0).index t = ![0, 0] ∧ (cfg0.win 1).index t = ![0, 0]
    ∧ (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0] :=
  (by decide +kernel : ∀ t : Fin grid0.N, (cfg0.win 0).index t = ![0, 0] ∧ (cfg0.win 1).index t = ![0, 0]
    ∧ (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0])

theorem x_blk (c : Dev nD) (t : Fin cfg0.N) : (iblk m c 0 t : Vec Ideal S3072x4608 .bf16) = X m c := by
  have h := (idx t).1
  funext y
  unfold X
  blk_ext [iblk, h]

theorem dy_blk (c : Dev nD) (t : Fin cfg0.N) : (iblk m c 1 t : Vec Ideal S3072x2048 .bf16) = DY m c := by
  have h := (idx t).2.1
  funext y
  unfold DY
  blk_ext [iblk, h]

theorem mg_blk (c : Dev nD) (t : Fin cfg0.N) : (iblk m c 2 t : Vec Ideal S4608x2048 .f32) = MG m c := by
  have h := (idx t).2.2.1
  funext y
  unfold MG
  blk_ext [iblk, h]

/-! ## The arrays -/

/-- The accumulated product. -/
def outArr (c : Dev nD) : Vec Ideal S4608x2048 .f32 := fun i =>
  MG m c (ix2 (i 0) (i 1)) + (∑ k, refCode xMax xInv (xCol m c (i 0)) k * refCode dyMax dyInv (dyCol m c (i 1)) k)
    * (refScale xInv (xCol m c (i 0)) * refScale dyInv (dyCol m c (i 1)))
/-- The codes of `x`, and of `dy`. -/
def xCodeArr (c : Dev nD) : Vec Ideal S3072x4608 .fp8e4m3 := fun i => refCode xMax xInv (xCol m c (i 1)) (i 0)
def dyCodeArr (c : Dev nD) : Vec Ideal S3072x2048 .fp8e5m2 := fun i => refCode dyMax dyInv (dyCol m c (i 1)) (i 0)
/-- Their scales. -/
def xScaleArr (c : Dev nD) : Vec Ideal S1x4608 .f32 := fun i => refScale xInv (xCol m c (i 1))
def dyScaleArr (c : Dev nD) : Vec Ideal S1x2048 .f32 := fun i => refScale dyInv (dyCol m c (i 1))

/-! ## What the one point stores -/

theorem part11 (x0 : Vec Ideal S3072x4608 .bf16) (x1 : Vec Ideal S3072x2048 .bf16) (x2 : Vec Ideal S4608x2048 .f32) : k0_pay11 x0 x1 x2 = k0_pay3 x0 := by
  unfold k0_pay11 r0_0; rw [View.ld_unit_lit]; exact by decide
theorem part12 (x0 : Vec Ideal S3072x4608 .bf16) (x1 : Vec Ideal S3072x2048 .bf16) (x2 : Vec Ideal S4608x2048 .f32) : k0_pay12 x0 x1 x2 = k0_pay4 x0 := by
  unfold k0_pay12 r0_0; rw [View.ld_unit_lit]; exact by decide
theorem part13 (x0 : Vec Ideal S3072x4608 .bf16) (x1 : Vec Ideal S3072x2048 .bf16) (x2 : Vec Ideal S4608x2048 .f32) : k0_pay13 x0 x1 x2 = k0_pay5 x1 := by
  unfold k0_pay13 r0_1; rw [View.ld_unit_lit]; exact by decide
theorem part14 (x0 : Vec Ideal S3072x4608 .bf16) (x1 : Vec Ideal S3072x2048 .bf16) (x2 : Vec Ideal S4608x2048 .f32) : k0_pay14 x0 x1 x2 = k0_pay6 x1 := by
  unfold k0_pay14 r0_1; rw [View.ld_unit_lit]; exact by decide

theorem out_eq (c : Dev nD) : k0_pay10 (k0_pay3 (X m c)) (k0_pay4 (X m c)) (k0_pay5 (DY m c)) (k0_pay6 (DY m c)) (MG m c) = outArr m c := by
  funext y
  refine (congrArg _ (eq_ix2 y)).trans ((pay10_apply _ _ _ _ _ (y 0) (y 1)).trans ?_)
  unfold outArr
  refine congrArg₂ (fun u v : EReal => MG m c (ix2 (y 0) (y 1)) + u * v) (Finset.sum_congr rfl fun k _ => ?_) ?_
  · exact congrArg₂ (fun u v : EReal => u * v) (pay3_apply (X m c) k (y 0)) (pay8_apply (DY m c) k (y 1))
  · exact congrArg₂ (fun u v : EReal => u * v) (pay4_apply (X m c) (y 0)) (pay9_apply (DY m c) (y 1))

theorem xCode_eq (c : Dev nD) : k0_pay3 (X m c) = xCodeArr m c :=
  funext fun y => (congrArg _ (eq_ix2 y)).trans (pay3_apply (X m c) (y 0) (y 1))
theorem dyCode_eq (c : Dev nD) : k0_pay8 (k0_pay5 (DY m c)) (k0_pay6 (DY m c)) = dyCodeArr m c :=
  funext fun y => (congrArg _ (eq_ix2 y)).trans (pay8_apply (DY m c) (y 0) (y 1))

/-- An index into a row. -/
theorem row_ix {n : Nat} (y : (⟨2, ![1, n]⟩ : Shape).Idx) : y = ix2 0 (y 1) :=
  (eq_ix2 y).trans (congrArg (fun a => ix2 a (y 1)) (Subsingleton.elim (α := Fin 1) _ _))

theorem xScale_eq (c : Dev nD) : k0_pay4 (X m c) = xScaleArr m c :=
  funext fun y => (congrArg _ (row_ix y)).trans (pay4_apply (X m c) (y 1))
theorem dyScale_eq (c : Dev nD) : k0_pay9 (k0_pay6 (DY m c)) = dyScaleArr m c :=
  funext fun y => (congrArg _ (row_ix y)).trans (pay9_apply (DY m c) (y 1))

/-- An array read where a block that is the whole array places an element. -/
theorem read_same {A : Type} {d0 d1 : Nat} (f : (⟨2, ![d0, d1]⟩ : Shape).Idx → A) (y i : (⟨2, ![d0, d1]⟩ : Shape).Idx)
    (h0 : (i 0).val = (y 0).val) (h1 : (i 1).val = (y 1).val) : f y = f i := by
  refine congrArg f (funext fun a => ?_)
  match a with
  | ⟨0, _⟩ => exact Fin.ext h0.symm
  | ⟨1, _⟩ => exact Fin.ext h1.symm

theorem out_final (c : Dev nD) : (dats m 0 c).arrAt 3 cfg0.N = outArr m c := by
  refine (dats m 0 c).arrAt_eq_of_covers 3 _ (by decide +kernel) fun t hf y => ?_
  have h := (idx t).2.2.2.1
  blk_simp [h]
  rw [after0_3]
  frame_out
  simp only [part11, part12, part13, part14, x_blk, dy_blk, mg_blk]
  rw [out_eq]
  exact read_same (outArr m c) y _ (by blk_simp [h]) (by blk_simp [h])

theorem xCode_final (c : Dev nD) : (dats m 0 c).arrAt 4 cfg0.N = xCodeArr m c := by
  refine (dats m 0 c).arrAt_eq_of_covers 4 _ (by decide +kernel) fun t hf y => ?_
  have h := (idx t).2.2.2.2.1
  blk_simp [h]
  rw [after0_4]
  frame_out
  simp only [part11, part12, part13, part14, x_blk, dy_blk, mg_blk]
  rw [xCode_eq]
  exact read_same (xCodeArr m c) y _ (by blk_simp [h]) (by blk_simp [h])

theorem xScale_final (c : Dev nD) : (dats m 0 c).arrAt 5 cfg0.N = xScaleArr m c := by
  refine (dats m 0 c).arrAt_eq_of_covers 5 _ (by decide +kernel) fun t hf y => ?_
  have h := (idx t).2.2.2.2.2.1
  blk_simp [h]
  rw [after0_5]
  frame_out
  simp only [part11, part12, part13, part14, x_blk, dy_blk, mg_blk]
  rw [xScale_eq]
  exact read_same (xScaleArr m c) y _ (by blk_simp [h]) (by blk_simp [h])

theorem dyCode_final (c : Dev nD) : (dats m 0 c).arrAt 6 cfg0.N = dyCodeArr m c := by
  refine (dats m 0 c).arrAt_eq_of_covers 6 _ (by decide +kernel) fun t hf y => ?_
  have h := (idx t).2.2.2.2.2.2.1
  blk_simp [h]
  rw [after0_6]
  frame_out
  simp only [part11, part12, part13, part14, x_blk, dy_blk, mg_blk]
  rw [dyCode_eq]
  exact read_same (dyCodeArr m c) y _ (by blk_simp [h]) (by blk_simp [h])

theorem dyScale_final (c : Dev nD) : (dats m 0 c).arrAt 7 cfg0.N = dyScaleArr m c := by
  refine (dats m 0 c).arrAt_eq_of_covers 7 _ (by decide +kernel) fun t hf y => ?_
  have h := (idx t).2.2.2.2.2.2.2
  blk_simp [h]
  rw [after0_7]
  frame_out
  simp only [part11, part12, part13, part14, x_blk, dy_blk, mg_blk]
  rw [dyScale_eq]
  exact read_same (dyScaleArr m c) y _ (by blk_simp [h]) (by blk_simp [h])

end Cert.ReferenceIdeal.Run
-- ==== Proof.Equal.lean ====
/-
   Under the precondition the arrays the kernel leaves are those the reference leaves.
-/
module

public import proofs.«01_k».proof.Defs
public import proofs.«01_k».proof.Proof.KernelValue
public import proofs.«01_k».proof.Proof.ReferenceValue

@[expose] public section

set_option maxRecDepth 16384

noncomputable section

namespace Cert.Equal

open Idealize.ShloMosaic Idealize.ShloMosaic.TcCoe Idealize.SL.Sem Cert.Quantise

/-- The precondition's side conditions. -/
instance preFacts : Cert.Pre_bf16_numbers.Facts := ⟨by decide, by decide⟩

theorem max_16 : Ideal.ofBits .bf16 0x7F7F#16 = (((2 : ℝ) ^ (128 : ℤ) - (2 : ℝ) ^ (120 : ℤ) : ℝ) : EReal) := by
  simp [Ideal.ofBits, Ideal.ieee, -EReal.coe_mul, -EReal.coe_sub]; norm_num
theorem inf_16 : Ideal.ofBits .bf16 0x7F80#16 = ⊤ := by simp [Ideal.ofBits, Ideal.ieee]

/-- What the precondition computes of an element says that it is a number of the narrow type. -/
theorem number_of_one (e : EReal)
    (h : IntOp.ori (BitVec.ofBool (decide (max e (-e) ≤ Ideal.ofBits .bf16 0x7F7F#16))) (BitVec.ofBool (decide (max e (-e) = Ideal.ofBits .bf16 0x7F80#16))) = 1#1) :
    Number e := by
  rw [max_16, inf_16] at h
  by_cases h2 : max e (-e) = ⊤
  · exact Or.inl h2
  by_cases h1 : max e (-e) ≤ (((2 : ℝ) ^ (128 : ℤ) - (2 : ℝ) ^ (120 : ℤ) : ℝ) : EReal)
  · refine Or.inr (le_trans h1 (EReal.coe_le_coe_iff.mpr ?_))
    have : (0 : ℝ) ≤ (2 : ℝ) ^ (120 : ℤ) := by positivity
    linarith
  · rw [decide_eq_false h1, decide_eq_false h2] at h
    exact absurd h (by decide)

/-! ## The kernel's results and operands, in the arguments -/

section KernelIdeal
open Cert.KernelIdeal Cert.KernelIdeal.Gen
variable (m : (ℓ : Loc nD τ sig) → Buf (Elt Ideal) ℓ) (c : Dev nD)

/-- The first operand as the region finds it: the argument with its batch and row axes joined. -/
theorem kernel_x : Cert.KernelIdeal.Run.X m c
    = shapeCast S3072x4608 (m ((c.tc : Thread nD τ).loc main_arg0)) facts.shapeCasts_S2x1536x4608_S3072x4608 := by
  show V m c main_v0 = _
  entry_read
  rfl
/-- The second operand likewise. -/
theorem kernel_dy : Cert.KernelIdeal.Run.DY m c
    = shapeCast S3072x2048 (m ((c.tc : Thread nD τ).loc main_arg1)) facts.shapeCasts_S2x1536x2048_S3072x2048 := by
  show V m c main_v1 = _
  entry_read
  rfl
/-- The third operand is the argument. -/
theorem kernel_mg : Cert.KernelIdeal.Run.MG m c = m ((c.tc : Thread nD τ).loc main_arg2) := V_main_arg2 m c

/-- What the last host lines leave in `main_v3`. -/
theorem kernel_v3 : Pipeline.afterTail₀ cfgs (Cert.KernelIdeal.Run.dats m) 0 (V0 m) [hostOps1] c main_v3
    = shapeCast S2x1536x4608 (Cert.KernelIdeal.Run.xCodeArr m c) facts.shapeCasts_S3072x4608_S2x1536x4608 := by
  unfold Pipeline.afterTail₀
  simp only [hostOps1, List.flatten_cons, List.flatten_nil, List.append_nil]
  after_results
  exact congrArg (fun v => shapeCast S2x1536x4608 v facts.shapeCasts_S3072x4608_S2x1536x4608)
    ((Pipeline.withArrays_arr spec0 (by decide) c (V0 m c) (fun w => (Cert.KernelIdeal.Run.dats m 0 c).arrAt w cfg0.N) 4).trans (Cert.KernelIdeal.Run.xCode_final m c))

/-- What the last host lines leave in `main_v4`. -/
theorem kernel_v4 : Pipeline.afterTail₀ cfgs (Cert.KernelIdeal.Run.dats m) 0 (V0 m) [hostOps1] c main_v4
    = shapeCast S4608 (Cert.KernelIdeal.Run.xScaleArr m c) facts.shapeCasts_S18x1x256_S4608 := by
  unfold Pipeline.afterTail₀
  simp only [hostOps1, List.flatten_cons, List.flatten_nil, List.append_nil]
  after_results
  exact congrArg (fun v => shapeCast S4608 v facts.shapeCasts_S18x1x256_S4608)
    ((Pipeline.withArrays_arr spec0 (by decide) c (V0 m c) (fun w => (Cert.KernelIdeal.Run.dats m 0 c).arrAt w cfg0.N) 5).trans (Cert.KernelIdeal.Run.xScale_final m c))

/-- What the last host lines leave in `main_v5`. -/
theorem kernel_v5 : Pipeline.afterTail₀ cfgs (Cert.KernelIdeal.Run.dats m) 0 (V0 m) [hostOps1] c main_v5
    = shapeCast S2x1536x2048 (Cert.KernelIdeal.Run.dyCodeArr m c) facts.shapeCasts_S3072x2048_S2x1536x2048 := by
  unfold Pipeline.afterTail₀
  simp only [hostOps1, List.flatten_cons, List.flatten_nil, List.append_nil]
  after_results
  exact congrArg (fun v => shapeCast S2x1536x2048 v facts.shapeCasts_S3072x2048_S2x1536x2048)
    ((Pipeline.withArrays_arr spec0 (by decide) c (V0 m c) (fun w => (Cert.KernelIdeal.Run.dats m 0 c).arrAt w cfg0.N) 6).trans (Cert.KernelIdeal.Run.dyCode_final m c))

/-- What the last host lines leave in `main_v6`. -/
theorem kernel_v6 : Pipeline.afterTail₀ cfgs (Cert.KernelIdeal.Run.dats m) 0 (V0 m) [hostOps1] c main_v6
    = shapeCast S2048 (Cert.KernelIdeal.Run.dyScaleArr m c) facts.shapeCasts_S8x1x256_S2048 := by
  unfold Pipeline.afterTail₀
  simp only [hostOps1, List.flatten_cons, List.flatten_nil, List.append_nil]
  after_results
  exact congrArg (fun v => shapeCast S2048 v facts.shapeCasts_S8x1x256_S2048)
    ((Pipeline.withArrays_arr spec0 (by decide) c (V0 m c) (fun w => (Cert.KernelIdeal.Run.dats m 0 c).arrAt w cfg0.N) 7).trans (Cert.KernelIdeal.Run.dyScale_final m c))

end KernelIdeal

/-! ## The reference's results and operands, in the arguments -/

section ReferenceIdeal
open Cert.ReferenceIdeal Cert.ReferenceIdeal.Gen
variable (m : (ℓ : Loc nD τ sig) → Buf (Elt Ideal) ℓ) (c : Dev nD)

/-- The first operand as the region finds it: the argument with its batch and row axes joined. -/
theorem reference_x : Cert.ReferenceIdeal.Run.X m c
    = shapeCast S3072x4608 (m ((c.tc : Thread nD τ).loc main_arg0)) facts.shapeCasts_S2x1536x4608_S3072x4608 := by
  show V m c main_v0 = _
  entry_read
  rfl
/-- The second operand likewise. -/
theorem reference_dy : Cert.ReferenceIdeal.Run.DY m c
    = shapeCast S3072x2048 (m ((c.tc : Thread nD τ).loc main_arg1)) facts.shapeCasts_S2x1536x2048_S3072x2048 := by
  show V m c main_v1 = _
  entry_read
  rfl
/-- The third operand is the argument. -/
theorem reference_mg : Cert.ReferenceIdeal.Run.MG m c = m ((c.tc : Thread nD τ).loc main_arg2) := V_main_arg2 m c

/-- What the last host lines leave in `main_v3`. -/
theorem reference_v3 : Pipeline.afterTail₀ cfgs (Cert.ReferenceIdeal.Gen.dats m) 0 (V0 m) [hostOps1] c main_v3
    = shapeCast S2x1536x4608 (Cert.ReferenceIdeal.Run.xCodeArr m c) facts.shapeCasts_S3072x4608_S2x1536x4608 := by
  unfold Pipeline.afterTail₀
  simp only [hostOps1, List.flatten_cons, List.flatten_nil, List.append_nil]
  after_results
  exact congrArg (fun v => shapeCast S2x1536x4608 v facts.shapeCasts_S3072x4608_S2x1536x4608)
    ((Pipeline.withArrays_arr spec0 (by decide) c (V0 m c) (fun w => (Cert.ReferenceIdeal.Gen.dats m 0 c).arrAt w cfg0.N) 4).trans (Cert.ReferenceIdeal.Run.xCode_final m c))

/-- What the last host lines leave in `main_v4`. -/
theorem reference_v4 : Pipeline.afterTail₀ cfgs (Cert.ReferenceIdeal.Gen.dats m) 0 (V0 m) [hostOps1] c main_v4
    = shapeCast S4608 (Cert.ReferenceIdeal.Run.xScaleArr m c) facts.shapeCasts_S1x4608_S4608 := by
  unfold Pipeline.afterTail₀
  simp only [hostOps1, List.flatten_cons, List.flatten_nil, List.append_nil]
  after_results
  exact congrArg (fun v => shapeCast S4608 v facts.shapeCasts_S1x4608_S4608)
    ((Pipeline.withArrays_arr spec0 (by decide) c (V0 m c) (fun w => (Cert.ReferenceIdeal.Gen.dats m 0 c).arrAt w cfg0.N) 5).trans (Cert.ReferenceIdeal.Run.xScale_final m c))

/-- What the last host lines leave in `main_v5`. -/
theorem reference_v5 : Pipeline.afterTail₀ cfgs (Cert.ReferenceIdeal.Gen.dats m) 0 (V0 m) [hostOps1] c main_v5
    = shapeCast S2x1536x2048 (Cert.ReferenceIdeal.Run.dyCodeArr m c) facts.shapeCasts_S3072x2048_S2x1536x2048 := by
  unfold Pipeline.afterTail₀
  simp only [hostOps1, List.flatten_cons, List.flatten_nil, List.append_nil]
  after_results
  exact congrArg (fun v => shapeCast S2x1536x2048 v facts.shapeCasts_S3072x2048_S2x1536x2048)
    ((Pipeline.withArrays_arr spec0 (by decide) c (V0 m c) (fun w => (Cert.ReferenceIdeal.Gen.dats m 0 c).arrAt w cfg0.N) 6).trans (Cert.ReferenceIdeal.Run.dyCode_final m c))

/-- What the last host lines leave in `main_v6`. -/
theorem reference_v6 : Pipeline.afterTail₀ cfgs (Cert.ReferenceIdeal.Gen.dats m) 0 (V0 m) [hostOps1] c main_v6
    = shapeCast S2048 (Cert.ReferenceIdeal.Run.dyScaleArr m c) facts.shapeCasts_S1x2048_S2048 := by
  unfold Pipeline.afterTail₀
  simp only [hostOps1, List.flatten_cons, List.flatten_nil, List.append_nil]
  after_results
  exact congrArg (fun v => shapeCast S2048 v facts.shapeCasts_S1x2048_S2048)
    ((Pipeline.withArrays_arr spec0 (by decide) c (V0 m c) (fun w => (Cert.ReferenceIdeal.Gen.dats m 0 c).arrAt w cfg0.N) 7).trans (Cert.ReferenceIdeal.Run.dyScale_final m c))

end ReferenceIdeal

/-! ## The two sides' arrays agree -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

theorem x_same (h : Agree m m' c) : Cert.ReferenceIdeal.Run.X m' c = Cert.KernelIdeal.Run.X m c := by
  rw [reference_x, kernel_x, h.1]
theorem dy_same (h : Agree m m' c) : Cert.ReferenceIdeal.Run.DY m' c = Cert.KernelIdeal.Run.DY m c := by
  rw [reference_dy, kernel_dy, h.2.1]
theorem mg_same (h : Agree m m' c) : Cert.ReferenceIdeal.Run.MG m' c = Cert.KernelIdeal.Run.MG m c := by
  rw [reference_mg, kernel_mg, h.2.2]

/-- Every element of a reshaped array is an element of the array. -/
theorem shapeCast_mem {A : Type} {s t : Shape} (v : s.Idx → A) (h) (i : t.Idx) : ∃ k, shapeCast t v h i = v k := ⟨_, rfl⟩

/-- The precondition at the elements of a column. -/
theorem x_number (h : Pre_KernelIdeal_bf16_numbers m) (j r) : Number (Cert.KernelIdeal.Run.xCol m c j r) := by
  unfold Cert.KernelIdeal.Run.xCol
  rw [kernel_x]
  obtain ⟨k, e⟩ := shapeCast_mem (m ((c.tc : Thread Cert.KernelIdeal.nD Cert.KernelIdeal.τ).loc Cert.KernelIdeal.main_arg0)) Cert.KernelIdeal.Gen.facts.shapeCasts_S2x1536x4608_S3072x4608 (ix2 r j)
  exact e ▸ number_of_one _ (congrFun (h c).1 k)
theorem dy_number (h : Pre_KernelIdeal_bf16_numbers m) (j r) : Number (Cert.KernelIdeal.Run.dyCol m c j r) := by
  unfold Cert.KernelIdeal.Run.dyCol
  rw [kernel_dy]
  obtain ⟨k, e⟩ := shapeCast_mem (m ((c.tc : Thread Cert.KernelIdeal.nD Cert.KernelIdeal.τ).loc Cert.KernelIdeal.main_arg1)) Cert.KernelIdeal.Gen.facts.shapeCasts_S2x1536x2048_S3072x2048 (ix2 r j)
  exact e ▸ number_of_one _ (congrFun (h c).2 k)

/-- The columns of the two sides are the same. -/
theorem xCol_same (h : Agree m m' c) (j) : Cert.ReferenceIdeal.Run.xCol m' c j = Cert.KernelIdeal.Run.xCol m c j :=
  funext fun r => congrFun (x_same m m' c h) (ix2 r j)
theorem dyCol_same (h : Agree m m' c) (j) : Cert.ReferenceIdeal.Run.dyCol m' c j = Cert.KernelIdeal.Run.dyCol m c j :=
  funext fun r => congrFun (dy_same m m' c h) (ix2 r j)

/-- The first result: the gradient added to the product of the codes, rescaled. -/
theorem out_at (hp : Pre_KernelIdeal_bf16_numbers m) (h : Agree m m' c) (p : Fin 4608) (q : Fin 2048) :
    Cert.ReferenceIdeal.Run.MG m' c (ix2 p q)
      + (∑ k, refCode xMax xInv (Cert.ReferenceIdeal.Run.xCol m' c p) k * refCode dyMax dyInv (Cert.ReferenceIdeal.Run.dyCol m' c q) k)
        * (refScale xInv (Cert.ReferenceIdeal.Run.xCol m' c p) * refScale dyInv (Cert.ReferenceIdeal.Run.dyCol m' c q))
    = Cert.KernelIdeal.Run.MG m c (ix2 p q)
      + (∑ k, code xMax xInv (Cert.KernelIdeal.Run.xCol m c p) k * code dyMax dyInv (Cert.KernelIdeal.Run.dyCol m c q) k)
        * (scale xInv (Cert.KernelIdeal.Run.xCol m c p) * scale dyInv (Cert.KernelIdeal.Run.dyCol m c q)) := by
  rw [mg_same m m' c h, xCol_same m m' c h, dyCol_same m m' c h,
    (x_agree _ (x_number m c hp p)).1, (dy_agree _ (dy_number m c hp q)).1]
  simp only [(x_agree _ (x_number m c hp p)).2, (dy_agree _ (dy_number m c hp q)).2]
theorem out_same (hp : Pre_KernelIdeal_bf16_numbers m) (h : Agree m m' c) : Cert.ReferenceIdeal.Run.outArr m' c = Cert.KernelIdeal.Run.outArr m c :=
  funext fun i => out_at m m' c hp h (i 0) (i 1)
/-- The codes of the first operand. -/
theorem xCode_at (hp : Pre_KernelIdeal_bf16_numbers m) (h : Agree m m' c) (r : Fin 3072) (j : Fin 4608) :
    refCode xMax xInv (Cert.ReferenceIdeal.Run.xCol m' c j) r = code xMax xInv (Cert.KernelIdeal.Run.xCol m c j) r := by
  rw [xCol_same m m' c h]
  exact ((x_agree _ (x_number m c hp j)).2 r).symm
theorem xCode_same (hp : Pre_KernelIdeal_bf16_numbers m) (h : Agree m m' c) : Cert.ReferenceIdeal.Run.xCodeArr m' c = Cert.KernelIdeal.Run.xCodeArr m c :=
  funext fun i => xCode_at m m' c hp h (i 0) (i 1)
/-- The codes of the second operand. -/
theorem dyCode_at (hp : Pre_KernelIdeal_bf16_numbers m) (h : Agree m m' c) (r : Fin 3072) (j : Fin 2048) :
    refCode dyMax dyInv (Cert.ReferenceIdeal.Run.dyCol m' c j) r = code dyMax dyInv (Cert.KernelIdeal.Run.dyCol m c j) r := by
  rw [dyCol_same m m' c h]
  exact ((dy_agree _ (dy_number m c hp j)).2 r).symm
theorem dyCode_same (hp : Pre_KernelIdeal_bf16_numbers m) (h : Agree m m' c) : Cert.ReferenceIdeal.Run.dyCodeArr m' c = Cert.KernelIdeal.Run.dyCodeArr m c :=
  funext fun i => dyCode_at m m' c hp h (i 0) (i 1)

/-- An array of blocks of 256 columns, and a row, that hold one function of the column are the same laid out in a line. -/
theorem line_4608 (f : Fin 4608 → EReal) (a : (⟨3, ![18, 1, 256]⟩ : Shape).Idx → EReal) (b : (⟨2, ![1, 4608]⟩ : Shape).Idx → EReal)
    (ha : ∀ (p : Fin 18) (q : Fin 256), a (ix3 p 0 q) = f ⟨256 * p.val + q.val, by omega⟩) (hb : ∀ j, b (ix2 0 j) = f j) (h1 h2) :
    shapeCast ⟨1, ![4608]⟩ b h2 = shapeCast ⟨1, ![4608]⟩ a h1 := by
  funext i
  obtain ⟨j, rfl⟩ : ∃ j : Fin 4608, i = ix1 j := ⟨i 0, eq_ix1 i⟩
  have hp : j.val / 256 < 18 := by omega
  have hq : j.val % 256 < 256 := by omega
  rw [shapeCast_apply b h2 (ix1 j) (ix2 0 j) (by rw [Shape.rowMajor_val_two, Shape.rowMajor_val_one]; show 0 * 4608 + j.val = j.val; omega),
    shapeCast_apply a h1 (ix1 j) (ix3 ⟨j.val / 256, hp⟩ 0 ⟨j.val % 256, hq⟩) (by
      rw [Shape.rowMajor_val_three, Shape.rowMajor_val_one]
      show ((j.val / 256) * 1 + 0) * 256 + j.val % 256 = j.val
      omega), ha, hb]
  exact congrArg f (Fin.ext (by show j.val = 256 * (j.val / 256) + j.val % 256; omega))
theorem line_2048 (f : Fin 2048 → EReal) (a : (⟨3, ![8, 1, 256]⟩ : Shape).Idx → EReal) (b : (⟨2, ![1, 2048]⟩ : Shape).Idx → EReal)
    (ha : ∀ (p : Fin 8) (q : Fin 256), a (ix3 p 0 q) = f ⟨256 * p.val + q.val, by omega⟩) (hb : ∀ j, b (ix2 0 j) = f j) (h1 h2) :
    shapeCast ⟨1, ![2048]⟩ b h2 = shapeCast ⟨1, ![2048]⟩ a h1 := by
  funext i
  obtain ⟨j, rfl⟩ : ∃ j : Fin 2048, i = ix1 j := ⟨i 0, eq_ix1 i⟩
  have hp : j.val / 256 < 8 := by omega
  have hq : j.val % 256 < 256 := by omega
  rw [shapeCast_apply b h2 (ix1 j) (ix2 0 j) (by rw [Shape.rowMajor_val_two, Shape.rowMajor_val_one]; show 0 * 2048 + j.val = j.val; omega),
    shapeCast_apply a h1 (ix1 j) (ix3 ⟨j.val / 256, hp⟩ 0 ⟨j.val % 256, hq⟩) (by
      rw [Shape.rowMajor_val_three, Shape.rowMajor_val_one]
      show ((j.val / 256) * 1 + 0) * 256 + j.val % 256 = j.val
      omega), ha, hb]
  exact congrArg f (Fin.ext (by show j.val = 256 * (j.val / 256) + j.val % 256; omega))

/-- The scales of the first operand, in a line. -/
theorem xScale_same (hp : Pre_KernelIdeal_bf16_numbers m) (h : Agree m m' c) (h1 h2) :
    shapeCast Cert.ReferenceIdeal.S4608 (Cert.ReferenceIdeal.Run.xScaleArr m' c) h2 = shapeCast Cert.KernelIdeal.S4608 (Cert.KernelIdeal.Run.xScaleArr m c) h1 :=
  line_4608 (fun j => scale xInv (Cert.KernelIdeal.Run.xCol m c j)) _ _ (fun p q => rfl) (fun j => by
    show refScale xInv (Cert.ReferenceIdeal.Run.xCol m' c j) = _
    rw [xCol_same m m' c h]
    exact (x_agree _ (x_number m c hp j)).1.symm) h1 h2
/-- The scales of the second operand, in a line. -/
theorem dyScale_same (hp : Pre_KernelIdeal_bf16_numbers m) (h : Agree m m' c) (h1 h2) :
    shapeCast Cert.ReferenceIdeal.S2048 (Cert.ReferenceIdeal.Run.dyScaleArr m' c) h2 = shapeCast Cert.KernelIdeal.S2048 (Cert.KernelIdeal.Run.dyScaleArr m c) h1 :=
  line_2048 (fun j => scale dyInv (Cert.KernelIdeal.Run.dyCol m c j)) _ _ (fun p q => rfl) (fun j => by
    show refScale dyInv (Cert.ReferenceIdeal.Run.dyCol m' c j) = _
    rw [dyCol_same m m' c h]
    exact (dy_agree _ (dy_number m c hp j)).1.symm) h1 h2

end

/-- The two programs, from memories that hold the same arguments, end with the same results. -/
theorem algebraic : Cert.algebraic_KernelIdeal_ReferenceIdeal_pre_bf16_numbers := by
  pair_intro
  · run_from Cert.KernelIdeal.Run.run_main m g
    · exact Cert.KernelIdeal.Gen.W_main_arg0 m _ c
    · exact Cert.KernelIdeal.Gen.W_main_arg1 m _ c
  · run_from Cert.ReferenceIdeal.Gen.run_main m' g'
    all_goals first
      | exact (Cert.ReferenceIdeal.Run.out_final m' c).trans ((out_same m m' c hpre (hagree c)).trans (Cert.KernelIdeal.Run.out_final m c).symm)
      | exact (reference_v3 m' c).trans ((congrArg (fun v => shapeCast _ v _) (xCode_same m m' c hpre (hagree c))).trans (kernel_v3 m c).symm)
      | exact (reference_v4 m' c).trans ((xScale_same m m' c hpre (hagree c) _ _).trans (kernel_v4 m c).symm)
      | exact (reference_v5 m' c).trans ((congrArg (fun v => shapeCast _ v _) (dyCode_same m m' c hpre (hagree c))).trans (kernel_v5 m c).symm)
      | exact (reference_v6 m' c).trans ((dyScale_same m m' c hpre (hagree c) _ _).trans (kernel_v6 m c).symm)
      | exact (Cert.ReferenceIdeal.Gen.W_main_arg0 m' _ c).trans (hagree c).1
      | exact (Cert.ReferenceIdeal.Gen.W_main_arg1 m' _ c).trans (hagree c).2.1
      | exact (hagree c).2.2

end Cert.Equal
-- ==== Proof.lean ====
module

public import proofs.«01_k».proof.Defs
public import proofs.«01_k».proof.Proof.PrintedRun
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Equal.preFacts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial,
    Cert.Equal.algebraic⟩

end Cert.Proof

end
